-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v37)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v37) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1024x256 : Shape := ⟨2, ![1024, 256]⟩
abbrev S_ : Shape := ⟨0, ![]⟩
abbrev S1x127x4x256 : Shape := ⟨4, ![1, 127, 4, 256]⟩
abbrev S1x127x16x256 : Shape := ⟨4, ![1, 127, 16, 256]⟩
abbrev S1x1x1 : Shape := ⟨3, ![1, 1, 1]⟩
abbrev S1x63x4x256 : Shape := ⟨4, ![1, 63, 4, 256]⟩
abbrev S1x63x16x128 : Shape := ⟨4, ![1, 63, 16, 128]⟩
abbrev S1x1x4x256 : Shape := ⟨4, ![1, 1, 4, 256]⟩
abbrev S1x1x16x64 : Shape := ⟨4, ![1, 1, 16, 64]⟩
abbrev S1x1 : Shape := ⟨2, ![1, 1]⟩
abbrev S127x4x256 : Shape := ⟨3, ![127, 4, 256]⟩
abbrev S4x127x256 : Shape := ⟨3, ![4, 127, 256]⟩
abbrev S4x128x256 : Shape := ⟨3, ![4, 128, 256]⟩
abbrev S512x256 : Shape := ⟨2, ![512, 256]⟩
abbrev S63x4x256 : Shape := ⟨3, ![63, 4, 256]⟩
abbrev S4x63x256 : Shape := ⟨3, ![4, 63, 256]⟩
abbrev S4x64x256 : Shape := ⟨3, ![4, 64, 256]⟩
abbrev S256x256 : Shape := ⟨2, ![256, 256]⟩
abbrev S1x4x256 : Shape := ⟨3, ![1, 4, 256]⟩
abbrev S4x1x256 : Shape := ⟨3, ![4, 1, 256]⟩
abbrev S4x8x256 : Shape := ⟨3, ![4, 8, 256]⟩
abbrev S32x256 : Shape := ⟨2, ![32, 256]⟩
abbrev S127x16x256 : Shape := ⟨3, ![127, 16, 256]⟩
abbrev S16x127x256 : Shape := ⟨3, ![16, 127, 256]⟩
abbrev S16x128x256 : Shape := ⟨3, ![16, 128, 256]⟩
abbrev S2048x256 : Shape := ⟨2, ![2048, 256]⟩
abbrev S63x16x128 : Shape := ⟨3, ![63, 16, 128]⟩
abbrev S63x16x127 : Shape := ⟨3, ![63, 16, 127]⟩
abbrev S63x16x1 : Shape := ⟨3, ![63, 16, 1]⟩
abbrev S16x63x128 : Shape := ⟨3, ![16, 63, 128]⟩
abbrev S16x64x256 : Shape := ⟨3, ![16, 64, 256]⟩
abbrev S1x16x64 : Shape := ⟨3, ![1, 16, 64]⟩
abbrev S1x16x63 : Shape := ⟨3, ![1, 16, 63]⟩
abbrev S1x16x1 : Shape := ⟨3, ![1, 16, 1]⟩
abbrev S16x1x64 : Shape := ⟨3, ![16, 1, 64]⟩
abbrev S16x8x256 : Shape := ⟨3, ![16, 8, 256]⟩
abbrev S128x256 : Shape := ⟨2, ![128, 256]⟩
abbrev S4000x256 : Shape := ⟨2, ![4000, 256]⟩
abbrev S1x1024 : Shape := ⟨2, ![1, 1024]⟩
abbrev S800x256 : Shape := ⟨2, ![800, 256]⟩
abbrev S800x1024 : Shape := ⟨2, ![800, 1024]⟩
abbrev S512x1024 : Shape := ⟨2, ![512, 1024]⟩
abbrev S4x128x1024 : Shape := ⟨3, ![4, 128, 1024]⟩
abbrev S256x1024 : Shape := ⟨2, ![256, 1024]⟩
abbrev S4x64x1024 : Shape := ⟨3, ![4, 64, 1024]⟩
abbrev S32x1024 : Shape := ⟨2, ![32, 1024]⟩
abbrev S4x8x1024 : Shape := ⟨3, ![4, 8, 1024]⟩
abbrev S2048x1024 : Shape := ⟨2, ![2048, 1024]⟩
abbrev S16x128x1024 : Shape := ⟨3, ![16, 128, 1024]⟩
abbrev S1x128x1024 : Shape := ⟨3, ![1, 128, 1024]⟩
abbrev S128x1024 : Shape := ⟨2, ![128, 1024]⟩
abbrev S8x128x1024 : Shape := ⟨3, ![8, 128, 1024]⟩
abbrev S2x128x1024 : Shape := ⟨3, ![2, 128, 1024]⟩
abbrev S1024x128 : Shape := ⟨2, ![1024, 128]⟩
abbrev S1024x1024 : Shape := ⟨2, ![1024, 1024]⟩
abbrev S16x64x1024 : Shape := ⟨3, ![16, 64, 1024]⟩
abbrev S1x64x1024 : Shape := ⟨3, ![1, 64, 1024]⟩
abbrev S64x1024 : Shape := ⟨2, ![64, 1024]⟩
abbrev S8x64x1024 : Shape := ⟨3, ![8, 64, 1024]⟩
abbrev S2x64x1024 : Shape := ⟨3, ![2, 64, 1024]⟩
abbrev S128x64 : Shape := ⟨2, ![128, 64]⟩
abbrev S16x8x1024 : Shape := ⟨3, ![16, 8, 1024]⟩
abbrev S1x8x1024 : Shape := ⟨3, ![1, 8, 1024]⟩
abbrev S8x1024 : Shape := ⟨2, ![8, 1024]⟩
abbrev S8x8x1024 : Shape := ⟨3, ![8, 8, 1024]⟩
abbrev S2x8x1024 : Shape := ⟨3, ![2, 8, 1024]⟩
abbrev S1024x1x1 : Shape := ⟨3, ![1024, 1, 1]⟩

abbrev nBuf : Space → Nat
  | .hbm => 64
  | .vmem => 6
  | .smem => 0
  | _ => 0

abbrev bufTy : (tb : Table) → Fin (tcTables nBuf tb) → BufTy
  | .hbm, ⟨0, _⟩ => ⟨S1024x256, .f32⟩
  | .hbm, ⟨1, _⟩ => ⟨S_, .f32⟩
  | .hbm, ⟨2, _⟩ => ⟨S1x127x4x256, .f32⟩
  | .hbm, ⟨3, _⟩ => ⟨S1x127x16x256, .f32⟩
  | .hbm, ⟨4, _⟩ => ⟨S1x1x1, .f32⟩
  | .hbm, ⟨5, _⟩ => ⟨S1x63x4x256, .f32⟩
  | .hbm, ⟨6, _⟩ => ⟨S1x63x16x128, .f32⟩
  | .hbm, ⟨7, _⟩ => ⟨S1x1x1, .f32⟩
  | .hbm, ⟨8, _⟩ => ⟨S1x1x4x256, .f32⟩
  | .hbm, ⟨9, _⟩ => ⟨S1x1x16x64, .f32⟩
  | .hbm, ⟨10, _⟩ => ⟨S1x1, .f32⟩
  | .hbm, ⟨11, _⟩ => ⟨S1x1, .f32⟩
  | .hbm, ⟨12, _⟩ => ⟨S1x1, .f32⟩
  | .hbm, ⟨13, _⟩ => ⟨S127x4x256, .f32⟩
  | .hbm, ⟨14, _⟩ => ⟨S4x127x256, .f32⟩
  | .hbm, ⟨15, _⟩ => ⟨S_, .i32⟩
  | .hbm, ⟨16, _⟩ => ⟨S_, .f32⟩
  | .hbm, ⟨17, _⟩ => ⟨S4x128x256, .f32⟩
  | .hbm, ⟨18, _⟩ => ⟨S512x256, .f32⟩
  | .hbm, ⟨19, _⟩ => ⟨S512x256, .bf16⟩
  | .hbm, ⟨20, _⟩ => ⟨S63x4x256, .f32⟩
  | .hbm, ⟨21, _⟩ => ⟨S4x63x256, .f32⟩
  | .hbm, ⟨22, _⟩ => ⟨S_, .i32⟩
  | .hbm, ⟨23, _⟩ => ⟨S_, .f32⟩
  | .hbm, ⟨24, _⟩ => ⟨S4x64x256, .f32⟩
  | .hbm, ⟨25, _⟩ => ⟨S256x256, .f32⟩
  | .hbm, ⟨26, _⟩ => ⟨S256x256, .bf16⟩
  | .hbm, ⟨27, _⟩ => ⟨S1x4x256, .f32⟩
  | .hbm, ⟨28, _⟩ => ⟨S4x1x256, .f32⟩
  | .hbm, ⟨29, _⟩ => ⟨S_, .i32⟩
  | .hbm, ⟨30, _⟩ => ⟨S_, .f32⟩
  | .hbm, ⟨31, _⟩ => ⟨S4x8x256, .f32⟩
  | .hbm, ⟨32, _⟩ => ⟨S32x256, .f32⟩
  | .hbm, ⟨33, _⟩ => ⟨S32x256, .bf16⟩
  | .hbm, ⟨34, _⟩ => ⟨S127x16x256, .f32⟩
  | .hbm, ⟨35, _⟩ => ⟨S16x127x256, .f32⟩
  | .hbm, ⟨36, _⟩ => ⟨S_, .i32⟩
  | .hbm, ⟨37, _⟩ => ⟨S_, .f32⟩
  | .hbm, ⟨38, _⟩ => ⟨S16x128x256, .f32⟩
  | .hbm, ⟨39, _⟩ => ⟨S2048x256, .f32⟩
  | .hbm, ⟨40, _⟩ => ⟨S2048x256, .bf16⟩
  | .hbm, ⟨41, _⟩ => ⟨S63x16x128, .f32⟩
  | .hbm, ⟨42, _⟩ => ⟨S63x16x127, .f32⟩
  | .hbm, ⟨43, _⟩ => ⟨S63x16x1, .f32⟩
  | .hbm, ⟨44, _⟩ => ⟨S63x16x128, .f32⟩
  | .hbm, ⟨45, _⟩ => ⟨S16x63x128, .f32⟩
  | .hbm, ⟨46, _⟩ => ⟨S_, .i32⟩
  | .hbm, ⟨47, _⟩ => ⟨S_, .f32⟩
  | .hbm, ⟨48, _⟩ => ⟨S16x64x256, .f32⟩
  | .hbm, ⟨49, _⟩ => ⟨S1024x256, .f32⟩
  | .hbm, ⟨50, _⟩ => ⟨S1024x256, .bf16⟩
  | .hbm, ⟨51, _⟩ => ⟨S1x16x64, .f32⟩
  | .hbm, ⟨52, _⟩ => ⟨S1x16x63, .f32⟩
  | .hbm, ⟨53, _⟩ => ⟨S1x16x1, .f32⟩
  | .hbm, ⟨54, _⟩ => ⟨S1x16x64, .f32⟩
  | .hbm, ⟨55, _⟩ => ⟨S16x1x64, .f32⟩
  | .hbm, ⟨56, _⟩ => ⟨S_, .i32⟩
  | .hbm, ⟨57, _⟩ => ⟨S_, .f32⟩
  | .hbm, ⟨58, _⟩ => ⟨S16x8x256, .f32⟩
  | .hbm, ⟨59, _⟩ => ⟨S128x256, .f32⟩
  | .hbm, ⟨60, _⟩ => ⟨S128x256, .bf16⟩
  | .hbm, ⟨61, _⟩ => ⟨S4000x256, .bf16⟩
  | .hbm, ⟨62, _⟩ => ⟨S1x1024, .f32⟩
  | .hbm, ⟨63, _⟩ => ⟨S1024x1x1, .f32⟩
  | .local _ .vmem, ⟨0, _⟩ => ⟨S1024x256, .f32⟩
  | .local _ .vmem, ⟨1, _⟩ => ⟨S1x1, .f32⟩
  | .local _ .vmem, ⟨2, _⟩ => ⟨S4000x256, .bf16⟩
  | .local _ .vmem, ⟨3, _⟩ => ⟨S1x1, .f32⟩
  | .local _ .vmem, ⟨4, _⟩ => ⟨S1x1, .f32⟩
  | .local _ .vmem, ⟨5, _⟩ => ⟨S1x1024, .f32⟩
  | _, _ => ⟨S1024x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_c : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_c_0 : Ref sig .tc := ⟨.hbm, 22, rfl⟩
abbrev main_call1_v0 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_c_1 : Ref sig .tc := ⟨.hbm, 29, rfl⟩
abbrev main_call2_v0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_2 : Ref sig .tc := ⟨.hbm, 36, rfl⟩
abbrev main_call3_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_call4_v0 : Ref sig .tc := ⟨.hbm, 42, rfl⟩
abbrev main_call4_v1 : Ref sig .tc := ⟨.hbm, 43, rfl⟩
abbrev main_v24 : Ref sig .tc := ⟨.hbm, 44, rfl⟩
abbrev main_v25 : Ref sig .tc := ⟨.hbm, 45, rfl⟩
abbrev main_c_3 : Ref sig .tc := ⟨.hbm, 46, rfl⟩
abbrev main_call5_v0 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_call6_v0 : Ref sig .tc := ⟨.hbm, 52, rfl⟩
abbrev main_call6_v1 : Ref sig .tc := ⟨.hbm, 53, rfl⟩
abbrev main_v30 : Ref sig .tc := ⟨.hbm, 54, rfl⟩
abbrev main_v31 : Ref sig .tc := ⟨.hbm, 55, rfl⟩
abbrev main_c_4 : Ref sig .tc := ⟨.hbm, 56, rfl⟩
abbrev main_call7_v0 : Ref sig .tc := ⟨.hbm, 57, rfl⟩
abbrev main_v32 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S1024x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4000x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]
-- ==== ReferenceIdeal.lean ====
abbrev S1024x256 : Shape := ⟨2, ![1024, 256]⟩
abbrev S_ : Shape := ⟨0, ![]⟩
abbrev S1x127x4x256 : Shape := ⟨4, ![1, 127, 4, 256]⟩
abbrev S1x127x16x256 : Shape := ⟨4, ![1, 127, 16, 256]⟩
abbrev S1x1x1 : Shape := ⟨3, ![1, 1, 1]⟩
abbrev S1x63x4x256 : Shape := ⟨4, ![1, 63, 4, 256]⟩
abbrev S1x63x16x128 : Shape := ⟨4, ![1, 63, 16, 128]⟩
abbrev S1x1x4x256 : Shape := ⟨4, ![1, 1, 4, 256]⟩
abbrev S1x1x16x64 : Shape := ⟨4, ![1, 1, 16, 64]⟩
abbrev S1 : Shape := ⟨1, ![1]⟩
abbrev S1024 : Shape := ⟨1, ![1024]⟩
abbrev S1x127x4x1024 : Shape := ⟨4, ![1, 127, 4, 1024]⟩
abbrev S4 : Shape := ⟨1, ![4]⟩
abbrev S1x1x4x1 : Shape := ⟨4, ![1, 1, 4, 1]⟩
abbrev S1x127x1024 : Shape := ⟨3, ![1, 127, 1024]⟩
abbrev S1x127x1024x1 : Shape := ⟨4, ![1, 127, 1024, 1]⟩
abbrev S127x1024x1 : Shape := ⟨3, ![127, 1024, 1]⟩
abbrev S127x1024 : Shape := ⟨2, ![127, 1024]⟩
abbrev S1x127x1024x256 : Shape := ⟨4, ![1, 127, 1024, 256]⟩
abbrev S1024x256x1 : Shape := ⟨3, ![1024, 256, 1]⟩
abbrev S1x1024x127 : Shape := ⟨3, ![1, 1024, 127]⟩
abbrev S1024x127x1 : Shape := ⟨3, ![1024, 127, 1]⟩
abbrev S1024x1x1 : Shape := ⟨3, ![1024, 1, 1]⟩
abbrev S1024x128x1 : Shape := ⟨3, ![1024, 128, 1]⟩
abbrev S1x63x4x1024 : Shape := ⟨4, ![1, 63, 4, 1024]⟩
abbrev S1x63x1024 : Shape := ⟨3, ![1, 63, 1024]⟩
abbrev S1x63x1024x1 : Shape := ⟨4, ![1, 63, 1024, 1]⟩
abbrev S63x1024x1 : Shape := ⟨3, ![63, 1024, 1]⟩
abbrev S63x1024 : Shape := ⟨2, ![63, 1024]⟩
abbrev S1x63x1024x128 : Shape := ⟨4, ![1, 63, 1024, 128]⟩
abbrev S1x1024x63 : Shape := ⟨3, ![1, 1024, 63]⟩
abbrev S1024x63x1 : Shape := ⟨3, ![1024, 63, 1]⟩
abbrev S1024x64x1 : Shape := ⟨3, ![1024, 64, 1]⟩
abbrev S1x1x4x1024 : Shape := ⟨4, ![1, 1, 4, 1024]⟩
abbrev S1x1x1024 : Shape := ⟨3, ![1, 1, 1024]⟩
abbrev S1x1x1024x1 : Shape := ⟨4, ![1, 1, 1024, 1]⟩
abbrev S1024x1 : Shape := ⟨2, ![1024, 1]⟩
abbrev S1x1 : Shape := ⟨2, ![1, 1]⟩
abbrev S1x1x1024x64 : Shape := ⟨4, ![1, 1, 1024, 64]⟩
abbrev S1x1024x1 : Shape := ⟨3, ![1, 1024, 1]⟩

abbrev nBuf : Space → Nat
  | .hbm => 179
  | .vmem => 0
  | .smem => 0
  | _ => 0

abbrev hbmTy0_0 (i : Nat) : BufTy := match i % 128 with
  | 0 => ⟨S1024x256, .f32⟩
  | 1 => ⟨S_, .f32⟩
  | 2 => ⟨S1x127x4x256, .f32⟩
  | 3 => ⟨S1x127x16x256, .f32⟩
  | 4 => ⟨S1x1x1, .f32⟩
  | 5 => ⟨S1x63x4x256, .f32⟩
  | 6 => ⟨S1x63x16x128, .f32⟩
  | 7 => ⟨S1x1x1, .f32⟩
  | 8 => ⟨S1x1x4x256, .f32⟩
  | 9 => ⟨S1x1x16x64, .f32⟩
  | 10 => ⟨S_, .f32⟩
  | 11 => ⟨S_, .f32⟩
  | 12 => ⟨S_, .f32⟩
  | 13 => ⟨S1024x256, .f32⟩
  | 14 => ⟨S1024x256, .f32⟩
  | 15 => ⟨S_, .f32⟩
  | 16 => ⟨S1024x256, .f32⟩
  | 17 => ⟨S1024x256, .f32⟩
  | 18 => ⟨S_, .f32⟩
  | 19 => ⟨S1024x256, .f32⟩
  | 20 => ⟨S1024x256, .f32⟩
  | 21 => ⟨S1024x256, .f32⟩
  | 22 => ⟨S1024x256, .f32⟩
  | 23 => ⟨S_, .i32⟩
  | 24 => ⟨S1, .i32⟩
  | 25 => ⟨S1024, .f32⟩
  | 26 => ⟨S1024x256, .f32⟩
  | 27 => ⟨S1x127x4x1024, .f32⟩
  | 28 => ⟨S_, .f32⟩
  | 29 => ⟨S1x127x4x1024, .f32⟩
  | 30 => ⟨S1x127x4x1024, .i1⟩
  | 31 => ⟨S1x127x4x1024, .i32⟩
  | 32 => ⟨S4, .i32⟩
  | 33 => ⟨S_, .i32⟩
  | 34 => ⟨S4, .i32⟩
  | 35 => ⟨S4, .i32⟩
  | 36 => ⟨S1x1x4x1, .i32⟩
  | 37 => ⟨S1x127x4x1024, .i32⟩
  | 38 => ⟨S1x127x4x1024, .i32⟩
  | 39 => ⟨S_, .i32⟩
  | 40 => ⟨S1x127x1024, .i32⟩
  | 41 => ⟨S1x127x1024x1, .i32⟩
  | 42 => ⟨S_, .i32⟩
  | 43 => ⟨S1x127x1024x1, .i32⟩
  | 44 => ⟨S1x127x1024x1, .i1⟩
  | 45 => ⟨S_, .i32⟩
  | 46 => ⟨S1x127x1024x1, .i32⟩
  | 47 => ⟨S1x127x1024x1, .i32⟩
  | 48 => ⟨S1x127x1024x1, .i32⟩
  | 49 => ⟨S127x1024x1, .i32⟩
  | 50 => ⟨S1, .i32⟩
  | 51 => ⟨S_, .i32⟩
  | 52 => ⟨S127x1024x1, .i32⟩
  | 53 => ⟨S127x1024x1, .i1⟩
  | 54 => ⟨S1x1x1, .i32⟩
  | 55 => ⟨S127x1024x1, .i32⟩
  | 56 => ⟨S127x1024x1, .i1⟩
  | 57 => ⟨S127x1024x1, .i1⟩
  | 58 => ⟨S_, .i1⟩
  | 59 => ⟨S127x1024, .i1⟩
  | 60 => ⟨S1x127x1024x256, .f32⟩
  | 61 => ⟨S1x127x1024x256, .i1⟩
  | 62 => ⟨S_, .f32⟩
  | 63 => ⟨S1x127x1024x256, .f32⟩
  | 64 => ⟨S1x127x1024x256, .f32⟩
  | 65 => ⟨S1024x256x1, .f32⟩
  | 66 => ⟨S1x1024x127, .f32⟩
  | 67 => ⟨S1x127x1024, .f32⟩
  | 68 => ⟨S_, .f32⟩
  | 69 => ⟨S_, .f32⟩
  | 70 => ⟨S_, .f32⟩
  | 71 => ⟨S1x127x1024, .f32⟩
  | 72 => ⟨S1x127x1024, .f32⟩
  | 73 => ⟨S_, .f32⟩
  | 74 => ⟨S1x127x1024, .f32⟩
  | 75 => ⟨S1x127x1024, .f32⟩
  | 76 => ⟨S1024x127x1, .f32⟩
  | 77 => ⟨S1024x1x1, .f32⟩
  | 78 => ⟨S1024x128x1, .f32⟩
  | 79 => ⟨S1x63x4x1024, .f32⟩
  | 80 => ⟨S_, .f32⟩
  | 81 => ⟨S1x63x4x1024, .f32⟩
  | 82 => ⟨S1x63x4x1024, .i1⟩
  | 83 => ⟨S1x63x4x1024, .i32⟩
  | 84 => ⟨S4, .i32⟩
  | 85 => ⟨S_, .i32⟩
  | 86 => ⟨S4, .i32⟩
  | 87 => ⟨S4, .i32⟩
  | 88 => ⟨S1x1x4x1, .i32⟩
  | 89 => ⟨S1x63x4x1024, .i32⟩
  | 90 => ⟨S1x63x4x1024, .i32⟩
  | 91 => ⟨S_, .i32⟩
  | 92 => ⟨S1x63x1024, .i32⟩
  | 93 => ⟨S1x63x1024x1, .i32⟩
  | 94 => ⟨S_, .i32⟩
  | 95 => ⟨S1x63x1024x1, .i32⟩
  | 96 => ⟨S1x63x1024x1, .i1⟩
  | 97 => ⟨S_, .i32⟩
  | 98 => ⟨S1x63x1024x1, .i32⟩
  | 99 => ⟨S1x63x1024x1, .i32⟩
  | 100 => ⟨S1x63x1024x1, .i32⟩
  | 101 => ⟨S63x1024x1, .i32⟩
  | 102 => ⟨S1, .i32⟩
  | 103 => ⟨S_, .i32⟩
  | 104 => ⟨S63x1024x1, .i32⟩
  | 105 => ⟨S63x1024x1, .i1⟩
  | 106 => ⟨S1x1x1, .i32⟩
  | 107 => ⟨S63x1024x1, .i32⟩
  | 108 => ⟨S63x1024x1, .i1⟩
  | 109 => ⟨S63x1024x1, .i1⟩
  | 110 => ⟨S_, .i1⟩
  | 111 => ⟨S63x1024, .i1⟩
  | 112 => ⟨S1x63x1024x128, .f32⟩
  | 113 => ⟨S1x63x1024x128, .i1⟩
  | 114 => ⟨S_, .f32⟩
  | 115 => ⟨S1x63x1024x128, .f32⟩
  | 116 => ⟨S1x63x1024x128, .f32⟩
  | 117 => ⟨S1x1024x63, .f32⟩
  | 118 => ⟨S1x63x1024, .f32⟩
  | 119 => ⟨S_, .f32⟩
  | 120 => ⟨S_, .f32⟩
  | 121 => ⟨S_, .f32⟩
  | 122 => ⟨S1x63x1024, .f32⟩
  | 123 => ⟨S1x63x1024, .f32⟩
  | 124 => ⟨S_, .f32⟩
  | 125 => ⟨S1x63x1024, .f32⟩
  | 126 => ⟨S1x63x1024, .f32⟩
  | 127 => ⟨S1024x63x1, .f32⟩
  | _ => ⟨S1024x256, .f32⟩

abbrev hbmTy0_1 (i : Nat) : BufTy := match i % 128 with
  | 0 => ⟨S1024x1x1, .f32⟩
  | 1 => ⟨S1024x64x1, .f32⟩
  | 2 => ⟨S1x1x4x1024, .f32⟩
  | 3 => ⟨S_, .f32⟩
  | 4 => ⟨S1x1x4x1024, .f32⟩
  | 5 => ⟨S1x1x4x1024, .i1⟩
  | 6 => ⟨S1x1x4x1024, .i32⟩
  | 7 => ⟨S4, .i32⟩
  | 8 => ⟨S_, .i32⟩
  | 9 => ⟨S4, .i32⟩
  | 10 => ⟨S4, .i32⟩
  | 11 => ⟨S1x1x4x1, .i32⟩
  | 12 => ⟨S1x1x4x1024, .i32⟩
  | 13 => ⟨S1x1x4x1024, .i32⟩
  | 14 => ⟨S_, .i32⟩
  | 15 => ⟨S1x1x1024, .i32⟩
  | 16 => ⟨S1x1x1024x1, .i32⟩
  | 17 => ⟨S_, .i32⟩
  | 18 => ⟨S1x1x1024x1, .i32⟩
  | 19 => ⟨S1x1x1024x1, .i1⟩
  | 20 => ⟨S_, .i32⟩
  | 21 => ⟨S1x1x1024x1, .i32⟩
  | 22 => ⟨S1x1x1024x1, .i32⟩
  | 23 => ⟨S1x1x1024x1, .i32⟩
  | 24 => ⟨S1024x1, .i32⟩
  | 25 => ⟨S1, .i32⟩
  | 26 => ⟨S_, .i32⟩
  | 27 => ⟨S1024x1, .i32⟩
  | 28 => ⟨S1024x1, .i1⟩
  | 29 => ⟨S1x1, .i32⟩
  | 30 => ⟨S1024x1, .i32⟩
  | 31 => ⟨S1024x1, .i1⟩
  | 32 => ⟨S1024x1, .i1⟩
  | 33 => ⟨S_, .i1⟩
  | 34 => ⟨S1024, .i1⟩
  | 35 => ⟨S1x1x1024x64, .f32⟩
  | 36 => ⟨S1x1x1024x64, .i1⟩
  | 37 => ⟨S_, .f32⟩
  | 38 => ⟨S1x1x1024x64, .f32⟩
  | 39 => ⟨S1x1x1024x64, .f32⟩
  | 40 => ⟨S1x1024x1, .f32⟩
  | 41 => ⟨S1x1x1024, .f32⟩
  | 42 => ⟨S_, .f32⟩
  | 43 => ⟨S_, .f32⟩
  | 44 => ⟨S_, .f32⟩
  | 45 => ⟨S1x1x1024, .f32⟩
  | 46 => ⟨S1x1x1024, .f32⟩
  | 47 => ⟨S_, .f32⟩
  | 48 => ⟨S1x1x1024, .f32⟩
  | 49 => ⟨S1x1x1024, .f32⟩
  | 50 => ⟨S1024x1x1, .f32⟩
  | _ => ⟨S1024x256, .f32⟩

abbrev hbmTy (i : Nat) : BufTy := match i / 128 with
  | 0 => hbmTy0_0 i
  | 1 => hbmTy0_1 i
  | _ => ⟨S1024x256, .f32⟩

abbrev bufTy : (tb : Table) → Fin (tcTables nBuf tb) → BufTy
  | .hbm, ⟨i, _⟩ => hbmTy i
  | _, _ => ⟨S1024x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_cst_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v0 : Ref sig .tc := ⟨.hbm, 17, rfl⟩
abbrev main_cst_1 : Ref sig .tc := ⟨.hbm, 18, rfl⟩
abbrev main_v1 : Ref sig .tc := ⟨.hbm, 19, rfl⟩
abbrev main_v2 : Ref sig .tc := ⟨.hbm, 20, rfl⟩
abbrev main_v3 : Ref sig .tc := ⟨.hbm, 21, rfl⟩
abbrev main_v4 : Ref sig .tc := ⟨.hbm, 22, rfl⟩
abbrev main_c : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_cst_2 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c_3 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_c_4 : Ref sig .tc := ⟨.hbm, 39, rfl⟩
abbrev main_v18 : Ref sig .tc := ⟨.hbm, 40, rfl⟩
abbrev main_v19 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v20 : Ref sig .tc := ⟨.hbm, 64, rfl⟩
abbrev main_v21 : Ref sig .tc := ⟨.hbm, 65, rfl⟩
abbrev main_v22 : Ref sig .tc := ⟨.hbm, 66, rfl⟩
abbrev main_v23 : Ref sig .tc := ⟨.hbm, 67, rfl⟩
abbrev main_cst_5 : Ref sig .tc := ⟨.hbm, 68, rfl⟩
abbrev main_cst_6 : Ref sig .tc := ⟨.hbm, 69, rfl⟩
abbrev main_call2_v0 : Ref sig .tc := ⟨.hbm, 70, rfl⟩
abbrev main_call2_v1 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_v27 : Ref sig .tc := ⟨.hbm, 78, rfl⟩
abbrev main_v28 : Ref sig .tc := ⟨.hbm, 79, rfl⟩
abbrev main_cst_7 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_c_8 : Ref sig .tc := ⟨.hbm, 85, rfl⟩
abbrev main_v33 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_c_9 : Ref sig .tc := ⟨.hbm, 91, rfl⟩
abbrev main_v38 : Ref sig .tc := ⟨.hbm, 92, rfl⟩
abbrev main_v39 : Ref sig .tc := ⟨.hbm, 93, rfl⟩
abbrev main_call3_c : Ref sig .tc := ⟨.hbm, 94, rfl⟩
abbrev main_call3_v0 : Ref sig .tc := ⟨.hbm, 95, rfl⟩
abbrev main_call3_v1 : Ref sig .tc := ⟨.hbm, 96, rfl⟩
abbrev main_call3_c_0 : Ref sig .tc := ⟨.hbm, 97, rfl⟩
abbrev main_call3_v2 : Ref sig .tc := ⟨.hbm, 98, rfl⟩
abbrev main_call3_v3 : Ref sig .tc := ⟨.hbm, 99, rfl⟩
abbrev main_call3_v4 : Ref sig .tc := ⟨.hbm, 100, rfl⟩
abbrev main_call3_v5 : Ref sig .tc := ⟨.hbm, 101, rfl⟩
abbrev main_call3_c_1 : Ref sig .tc := ⟨.hbm, 102, rfl⟩
abbrev main_call3_c_2 : Ref sig .tc := ⟨.hbm, 103, rfl⟩
abbrev main_call3_v6 : Ref sig .tc := ⟨.hbm, 104, rfl⟩
abbrev main_call3_v7 : Ref sig .tc := ⟨.hbm, 105, rfl⟩
abbrev main_call3_v8 : Ref sig .tc := ⟨.hbm, 106, rfl⟩
abbrev main_call3_v9 : Ref sig .tc := ⟨.hbm, 107, rfl⟩
abbrev main_call3_v10 : Ref sig .tc := ⟨.hbm, 108, rfl⟩
abbrev main_call3_v11 : Ref sig .tc := ⟨.hbm, 109, rfl⟩
abbrev main_call3_c_3 : Ref sig .tc := ⟨.hbm, 110, rfl⟩
abbrev main_call3_v12 : Ref sig .tc := ⟨.hbm, 111, rfl⟩
abbrev main_call3_v13 : Ref sig .tc := ⟨.hbm, 112, rfl⟩
abbrev main_call3_v14 : Ref sig .tc := ⟨.hbm, 113, rfl⟩
abbrev main_call3_cst : Ref sig .tc := ⟨.hbm, 114, rfl⟩
abbrev main_call3_v15 : Ref sig .tc := ⟨.hbm, 115, rfl⟩
abbrev main_v40 : Ref sig .tc := ⟨.hbm, 116, rfl⟩
abbrev main_v41 : Ref sig .tc := ⟨.hbm, 117, rfl⟩
abbrev main_v42 : Ref sig .tc := ⟨.hbm, 118, rfl⟩
abbrev main_cst_10 : Ref sig .tc := ⟨.hbm, 119, rfl⟩
abbrev main_cst_11 : Ref sig .tc := ⟨.hbm, 120, rfl⟩
abbrev main_call4_v0 : Ref sig .tc := ⟨.hbm, 121, rfl⟩
abbrev main_call4_v1 : Ref sig .tc := ⟨.hbm, 122, rfl⟩
abbrev main_call4_v2 : Ref sig .tc := ⟨.hbm, 123, rfl⟩
abbrev main_call4_v3 : Ref sig .tc := ⟨.hbm, 124, rfl⟩
abbrev main_call4_v4 : Ref sig .tc := ⟨.hbm, 125, rfl⟩
abbrev main_v43 : Ref sig .tc := ⟨.hbm, 126, rfl⟩
abbrev main_v44 : Ref sig .tc := ⟨.hbm, 127, rfl⟩
abbrev main_v45 : Ref sig .tc := ⟨.hbm, 128, rfl⟩
abbrev main_v46 : Ref sig .tc := ⟨.hbm, 129, rfl⟩
abbrev main_v47 : Ref sig .tc := ⟨.hbm, 130, rfl⟩
abbrev main_cst_12 : Ref sig .tc := ⟨.hbm, 131, rfl⟩
abbrev main_v48 : Ref sig .tc := ⟨.hbm, 132, rfl⟩
abbrev main_v49 : Ref sig .tc := ⟨.hbm, 133, rfl⟩
abbrev main_v50 : Ref sig .tc := ⟨.hbm, 134, rfl⟩
abbrev main_v51 : Ref sig .tc := ⟨.hbm, 135, rfl⟩
abbrev main_c_13 : Ref sig .tc := ⟨.hbm, 136, rfl⟩
abbrev main_v52 : Ref sig .tc := ⟨.hbm, 137, rfl⟩
abbrev main_v53 : Ref sig .tc := ⟨.hbm, 138, rfl⟩
abbrev main_v54 : Ref sig .tc := ⟨.hbm, 139, rfl⟩
abbrev main_v55 : Ref sig .tc := ⟨.hbm, 140, rfl⟩
abbrev main_v56 : Ref sig .tc := ⟨.hbm, 141, rfl⟩
abbrev main_c_14 : Ref sig .tc := ⟨.hbm, 142, rfl⟩
abbrev main_v57 : Ref sig .tc := ⟨.hbm, 143, rfl⟩
abbrev main_v58 : Ref sig .tc := ⟨.hbm, 144, rfl⟩
abbrev main_call5_c : Ref sig .tc := ⟨.hbm, 145, rfl⟩
abbrev main_call5_v0 : Ref sig .tc := ⟨.hbm, 146, rfl⟩
abbrev main_call5_v1 : Ref sig .tc := ⟨.hbm, 147, rfl⟩
abbrev main_call5_c_0 : Ref sig .tc := ⟨.hbm, 148, rfl⟩
abbrev main_call5_v2 : Ref sig .tc := ⟨.hbm, 149, rfl⟩
abbrev main_call5_v3 : Ref sig .tc := ⟨.hbm, 150, rfl⟩
abbrev main_call5_v4 : Ref sig .tc := ⟨.hbm, 151, rfl⟩
abbrev main_call5_v5 : Ref sig .tc := ⟨.hbm, 152, rfl⟩
abbrev main_call5_c_1 : Ref sig .tc := ⟨.hbm, 153, rfl⟩
abbrev main_call5_c_2 : Ref sig .tc := ⟨.hbm, 154, rfl⟩
abbrev main_call5_v6 : Ref sig .tc := ⟨.hbm, 155, rfl⟩
abbrev main_call5_v7 : Ref sig .tc := ⟨.hbm, 156, rfl⟩
abbrev main_call5_v8 : Ref sig .tc := ⟨.hbm, 157, rfl⟩
abbrev main_call5_v9 : Ref sig .tc := ⟨.hbm, 158, rfl⟩
abbrev main_call5_v10 : Ref sig .tc := ⟨.hbm, 159, rfl⟩
abbrev main_call5_v11 : Ref sig .tc := ⟨.hbm, 160, rfl⟩
abbrev main_call5_c_3 : Ref sig .tc := ⟨.hbm, 161, rfl⟩
abbrev main_call5_v12 : Ref sig .tc := ⟨.hbm, 162, rfl⟩
abbrev main_call5_v13 : Ref sig .tc := ⟨.hbm, 163, rfl⟩
abbrev main_call5_v14 : Ref sig .tc := ⟨.hbm, 164, rfl⟩
abbrev main_call5_cst : Ref sig .tc := ⟨.hbm, 165, rfl⟩
abbrev main_call5_v15 : Ref sig .tc := ⟨.hbm, 166, rfl⟩
abbrev main_v59 : Ref sig .tc := ⟨.hbm, 167, rfl⟩
abbrev main_v60 : Ref sig .tc := ⟨.hbm, 168, rfl⟩
abbrev main_v61 : Ref sig .tc := ⟨.hbm, 169, rfl⟩
abbrev main_cst_15 : Ref sig .tc := ⟨.hbm, 170, rfl⟩
abbrev main_cst_16 : Ref sig .tc := ⟨.hbm, 171, rfl⟩
abbrev main_call6_v0 : Ref sig .tc := ⟨.hbm, 172, rfl⟩
abbrev main_call6_v1 : Ref sig .tc := ⟨.hbm, 173, rfl⟩
abbrev main_call6_v2 : Ref sig .tc := ⟨.hbm, 174, rfl⟩
abbrev main_call6_v3 : Ref sig .tc := ⟨.hbm, 175, rfl⟩
abbrev main_call6_v4 : Ref sig .tc := ⟨.hbm, 176, rfl⟩
abbrev main_v62 : Ref sig .tc := ⟨.hbm, 177, rfl⟩
abbrev main_v63 : Ref sig .tc := ⟨.hbm, 178, rfl⟩

abbrev nD : Nat := 1
abbrev τ : Topo := Topo.v7x

variable {F : FTy → Type} [FloatOps F]
-- ==== Proof.Spec.lean ====
module

public import Idealize.ShloMosaic.Lib.Pointwise
public import Idealize.ShloMosaic.PureOps.Ideal

@[expose] public section

/-!
  The gated linear network of one sample, over the extended reals: what both programs compute.

  A neuron holds sixteen rows of weights. Four inner products of the sample with the neuron's context maps give four
  bits, the bits name one row, and the neuron's output is the inner product of that row with the logits of the layer
  below, clipped. Each layer's logits start with a bias.
-/

noncomputable section

namespace Cert.Glin

open Idealize.ShloMosaic

/-- A logit clipped to the network's range: the two bounds as the programs spell them. -/
def clip (v : EReal) : EReal :=
  min (Ideal.ofBits .f32 1088226339#32) (max (Ideal.ofBits .f32 3235709987#32) v)

/-- A sample's value clipped into the open unit interval. -/
def squash (v : EReal) : EReal :=
  min (Ideal.ofBits .f32 1065336439#32) (max (Ideal.ofBits .f32 981668463#32) v)

/-- The row that four distances select: bit `m` is set where distance `m` is positive. -/
def pick (D : Fin 4 → EReal) : Fin 16 :=
  ⟨(if 0 < D 0 then 1 else 0) + (if 0 < D 1 then 2 else 0) + (if 0 < D 2 then 4 else 0) + (if 0 < D 3 then 8 else 0), by
    split_ifs <;> decide⟩

/-- The distances of a sample from a neuron's context maps. -/
def dist {S : ℕ} (cm : Fin S → Fin 4 → Fin 256 → EReal) (x : Fin 256 → EReal) (s : Fin S) (m : Fin 4) : EReal :=
  ∑ k, cm s m k * x k

/-- Neuron `s` of a layer: the selected row against the logits below, clipped. -/
def neuron {S n : ℕ} (cm : Fin S → Fin 4 → Fin 256 → EReal) (w : Fin S → Fin 16 → Fin n → EReal)
    (x : Fin 256 → EReal) (l : Fin n → EReal) (s : Fin S) : EReal :=
  clip (∑ i, w s (pick (dist cm x s)) i * l i)

/-- The logits of the sample itself, the base bias in place of the first. -/
def logit (c : EReal) (x : Fin 256 → EReal) (i : Fin 256) : EReal :=
  if i = 0 then c else Ideal.log (Ideal.div (squash (x i)) (1 - squash (x i)))

/-- The hidden logits of the first layer, its bias in front. -/
def hidden0 (x : Fin 256 → EReal) (c : EReal) (cm0 : Fin 127 → Fin 4 → Fin 256 → EReal)
    (w0 : Fin 127 → Fin 16 → Fin 256 → EReal) (c0 : EReal) : Fin 128 → EReal :=
  Fin.cons (α := fun _ => EReal) c0 (neuron cm0 w0 x (logit c x))

/-- The hidden logits of the second layer, its bias in front. -/
def hidden1 (x : Fin 256 → EReal) (c : EReal) (cm0 : Fin 127 → Fin 4 → Fin 256 → EReal)
    (w0 : Fin 127 → Fin 16 → Fin 256 → EReal) (c0 : EReal) (cm1 : Fin 63 → Fin 4 → Fin 256 → EReal)
    (w1 : Fin 63 → Fin 16 → Fin 128 → EReal) (c1 : EReal) : Fin 64 → EReal :=
  Fin.cons (α := fun _ => EReal) c1 (neuron cm1 w1 x (hidden0 x c cm0 w0 c0))

/-- The network's output on one sample. -/
def net (x : Fin 256 → EReal) (c : EReal) (cm0 : Fin 127 → Fin 4 → Fin 256 → EReal)
    (w0 : Fin 127 → Fin 16 → Fin 256 → EReal) (c0 : EReal) (cm1 : Fin 63 → Fin 4 → Fin 256 → EReal)
    (w1 : Fin 63 → Fin 16 → Fin 128 → EReal) (c1 : EReal) (cm2 : Fin 1 → Fin 4 → Fin 256 → EReal)
    (w2 : Fin 1 → Fin 16 → Fin 64 → EReal) : EReal :=
  neuron cm2 w2 x (hidden1 x c cm0 w0 c0 cm1 w1 c1) 0

/-- The choice tree of the kernel, the fourth bit decided innermost, is the row that the bits name. -/
theorem tree_pick (D : Fin 4 → EReal) (a : Fin 16 → EReal) :
    (if 0 < D 0 then
        if 0 < D 1 then
          if 0 < D 2 then if 0 < D 3 then a 15 else a 7 else if 0 < D 3 then a 11 else a 3
        else if 0 < D 2 then if 0 < D 3 then a 13 else a 5 else if 0 < D 3 then a 9 else a 1
      else
        if 0 < D 1 then
          if 0 < D 2 then if 0 < D 3 then a 14 else a 6 else if 0 < D 3 then a 10 else a 2
        else if 0 < D 2 then if 0 < D 3 then a 12 else a 4 else if 0 < D 3 then a 8 else a 0)
      = a (pick D) := by
  unfold pick
  split_ifs <;> rfl

/-- A sum whose first term stands last: the kernel keeps the bias column at the end, the network at the front. -/
theorem sum_rolled {n : ℕ} (w : Fin (n + 1) → EReal) (c : EReal) (h : Fin n → EReal) (W H : Fin (n + 1) → EReal)
    (hW : ∀ i : Fin n, W i.castSucc = w i.succ) (hW' : W (Fin.last n) = w 0) (hH : ∀ i : Fin n, H i.castSucc = h i)
    (hH' : H (Fin.last n) = c) :
    ∑ i, W i * H i = ∑ i, w i * Fin.cons (α := fun _ => EReal) c h i := by
  rw [Fin.sum_univ_castSucc, Fin.sum_univ_succ, add_comm]
  simp only [hW, hW', hH, hH', Fin.cons_zero, Fin.cons_succ]

/-- A choice by the test whether a small number is a given one. -/
theorem select_eq_word {n N : ℕ} (i : Fin N) (hN : N ≤ 2 ^ 32) (hn : n < 2 ^ 32) (a b : EReal) :
    Scalar.select (IntOp.cmpi .eq (BitVec.ofNat 32 i) (BitVec.ofNat 32 n)) a b = if (i : ℕ) = n then a else b := by
  have h : (BitVec.ofNat 32 i = BitVec.ofNat 32 n) ↔ (i : ℕ) = n := by
    rw [← BitVec.toNat_inj, BitVec.toNat_ofNat, BitVec.toNat_ofNat, Nat.mod_eq_of_lt (by omega), Nat.mod_eq_of_lt hn]
  have h' : (BitVec.ofNat 32 i == BitVec.ofNat 32 n) = decide ((i : ℕ) = n) := by
    rw [Bool.eq_iff_iff, beq_iff_eq, decide_eq_true_iff, h]
  by_cases hi : (i : ℕ) = n <;> simp [Scalar.select, IntOp.cmpi, hi, h']

end Cert.Glin

end
-- ==== Proof.Body.lean ====
module

public import proofs.«01_k».proof.Proof.Gen.KernelIdeal.Frame
public import proofs.«01_k».proof.Proof.Spec
public import Idealize.ShloMosaic.Lib.Pipeline.Value
public import Idealize.ShloMosaic.Lib.Pipeline.ValueKit

@[expose] public section

set_option maxRecDepth 16384

/-!
  The kernel's body: what it leaves in the output block, read at a sample, is the network's output, when the packed
  buffer holds the context maps and the weights where the body looks for them.
-/

noncomputable section

namespace Cert.KernelIdeal.Glin

open Idealize.ShloMosaic Cert.KernelIdeal.Gen Cert.Glin

/-! ## The loads -/

/-- The load of the whole sample block is the block. -/
theorem load_x (x : Vec Ideal S1024x256 .f32) : View.ld x r0_0 = x :=
  View.ld_unit_lit _ x (by decide)

/-- The load of the whole base bias is the base bias. -/
theorem load_c (c : Vec Ideal S1x1 .f32) : View.ld c r0_1 = c :=
  View.ld_unit_lit _ c (by decide)

/-- A load of rows of the packed buffer, at an index. -/
theorem load_rows (u : Vec Ideal S4000x256 .bf16) {o n w : ℕ}
    (inb : ∀ a, (![o, 0] : Fin 2 → ℕ) a + (![n, w] : Fin 2 → ℕ) a ≤ S4000x256.size a)
    (r : Fin n) (k : Fin w) (i : Fin 4000) (k' : Fin 256) (hi : (i : ℕ) = o + r) (hk : (k' : ℕ) = k) :
    View.ld u (Rect.unit (s := S4000x256) ![o, 0] ![n, w] inb) (ix2 r k) = u (ix2 i k') :=
  View.ld_unit_apply_of u _ _ inb _ _ (Fin.forall_fin_two.2 ⟨hi, hk.trans (Nat.zero_add _).symm⟩)

/-! ## The payloads at an index -/

/-- The distances of every sample from every context map, by one product. -/
theorem pay1_at (x : Vec Ideal S1024x256 .f32) (v : Vec Ideal S800x256 .bf16) (r : Fin 800) (b : Fin 1024) :
    k0_pay1 x v (ix2 r b) = ∑ k : Fin 256, v (ix2 r k) * x (ix2 b k) := by
  pointwise [k0_pay1]

/-- The distances of the first layer. -/
theorem pay2_at (x : Vec Ideal S1024x256 .f32) (v : Vec Ideal S800x256 .bf16) (m : Fin 4) (s : Fin 128) (b : Fin 1024) :
    k0_pay2 x v (ix3 m s b) = ∑ k : Fin 256, v (ix2 ⟨m * 128 + s, by omega⟩ k) * x (ix2 b k) := by
  pointwise [k0_pay2]
  exact pay1_at _ _ _ _

/-- The distances of the second layer. -/
theorem pay3_at (x : Vec Ideal S1024x256 .f32) (v : Vec Ideal S800x256 .bf16) (m : Fin 4) (s : Fin 64) (b : Fin 1024) :
    k0_pay3 x v (ix3 m s b) = ∑ k : Fin 256, v (ix2 ⟨512 + (m * 64 + s), by omega⟩ k) * x (ix2 b k) := by
  pointwise [k0_pay3]
  exact pay1_at _ _ _ _

/-- The distances of the last layer. -/
theorem pay4_at (x : Vec Ideal S1024x256 .f32) (v : Vec Ideal S800x256 .bf16) (m : Fin 4) (s : Fin 8) (b : Fin 1024) :
    k0_pay4 x v (ix3 m s b) = ∑ k : Fin 256, v (ix2 ⟨768 + (m * 8 + s), by omega⟩ k) * x (ix2 b k) := by
  pointwise [k0_pay4]
  exact pay1_at _ _ _ _

/-- The first layer's sixteen candidate outputs of every neuron. -/
theorem pay5_at (x : Vec Ideal S1024x256 .f32) (c : Vec Ideal S1x1 .f32) (v : Vec Ideal S2048x256 .bf16)
    (j : Fin 16) (s : Fin 128) (b : Fin 1024) :
    k0_pay5 x c v (ix3 j s b)
      = ∑ i : Fin 256, v (ix2 ⟨j * 128 + s, by omega⟩ i) * logit (c (ix2 0 0)) (fun k => x (ix2 b k)) i := by
  pointwise [k0_pay5]
  refine Finset.sum_congr rfl fun i _ => ?_
  rw [select_eq_word i (by decide) (n := 0) (by decide)]
  simp only [logit, squash, Fin.ext_iff, Fin.val_zero]

/-- The second layer's candidates, from the first layer's. -/
theorem pay9_at (x : Vec Ideal S1024x256 .f32) (v : Vec Ideal S800x256 .bf16) (a : FVec Ideal S16x128x1024 .f32)
    (c : Vec Ideal S1x1 .f32) (w : Vec Ideal S1024x128 .bf16) (j : Fin 16) (s : Fin 64) (b : Fin 1024) :
    k0_pay9 (k0_pay2 x v) a (k0_pay6 x v) (k0_pay7 x v) (k0_pay8 x v) (Scalar.ofBits .f32 0x00000000#32) c w (ix3 j s b)
      = ∑ i : Fin 128, w (ix2 ⟨j * 64 + s, by omega⟩ i)
          * (if (i : ℕ) = 127 then c (ix2 0 0) else clip (a (ix3 (pick fun m => k0_pay2 x v (ix3 m i b)) i b))) := by
  pointwise [k0_pay9, k0_pay6, k0_pay7, k0_pay8]
  refine Finset.sum_congr rfl fun i _ => ?_
  rw [select_eq_word i (by decide) (n := 127) (by decide),
    ← tree_pick (fun m => k0_pay2 x v (ix3 m i b)) (fun j => a (ix3 j i b))]
  rfl

/-- The second layer's outputs, its bias in the last row, from its candidates. -/
theorem pay12_at (d : FVec Ideal S4x64x1024 .f32) (a : FVec Ideal S16x64x1024 .f32) (c : Vec Ideal S1x1 .f32)
    (i : Fin 64) (b : Fin 1024) :
    k0_pay12 d a (k0_pay10 d) c (ix2 i b)
      = if (i : ℕ) = 63 then c (ix2 0 0) else clip (a (ix3 (pick fun m => d (ix3 m i b)) i b)) := by
  pointwise [k0_pay12, k0_pay10]
  rw [select_eq_word i (by decide) (n := 63) (by decide),
    ← tree_pick (fun m => d (ix3 m i b)) (fun j => a (ix3 j i b))]
  rfl

/-- The last layer's output, from the second layer's. -/
theorem pay13_at (d : FVec Ideal S4x8x1024 .f32) (w : Vec Ideal S128x64 .bf16) (l : FVec Ideal S64x1024 .bf16)
    (b : Fin 1024) :
    k0_pay13 d (k0_pay11 w) l (ix2 0 b)
      = clip (∑ i : Fin 64, w (ix2 ⟨(pick fun m => d (ix3 m 0 b)) * 8, by omega⟩ i) * l (ix2 i b)) := by
  pointwise [k0_pay13, k0_pay11]
  refine Eq.trans ?_ (congrArg clip
    (tree_pick (fun m => d (ix3 m 0 b)) (fun j => ∑ i : Fin 64, w (ix2 ⟨j * 8, by omega⟩ i) * l (ix2 i b))))
  rfl

/-! ## The body's result -/

/-- What the packed buffer must hold: the context maps and the weights of the three layers, map by map and row by row,
    the weights of the upper layers with their bias column last. -/
structure Packed (u : Vec Ideal S4000x256 .bf16) (cm0 : Fin 127 → Fin 4 → Fin 256 → EReal)
    (w0 : Fin 127 → Fin 16 → Fin 256 → EReal) (cm1 : Fin 63 → Fin 4 → Fin 256 → EReal)
    (w1 : Fin 63 → Fin 16 → Fin 128 → EReal) (cm2 : Fin 1 → Fin 4 → Fin 256 → EReal)
    (w2 : Fin 1 → Fin 16 → Fin 64 → EReal) : Prop where
  h_cm0 : ∀ (s : Fin 127) (m : Fin 4) (k : Fin 256), u (ix2 ⟨m * 128 + s, by omega⟩ k) = cm0 s m k
  h_cm1 : ∀ (s : Fin 63) (m : Fin 4) (k : Fin 256), u (ix2 ⟨512 + (m * 64 + s), by omega⟩ k) = cm1 s m k
  h_cm2 : ∀ (m : Fin 4) (k : Fin 256), u (ix2 ⟨768 + m * 8, by omega⟩ k) = cm2 0 m k
  h_w0 : ∀ (s : Fin 127) (j : Fin 16) (k : Fin 256), u (ix2 ⟨800 + (j * 128 + s), by omega⟩ k) = w0 s j k
  h_w1 : ∀ (s : Fin 63) (j : Fin 16) (k : Fin 127), u (ix2 ⟨2848 + (j * 64 + s), by omega⟩ ⟨k, by omega⟩) = w1 s j k.succ
  h_w1b : ∀ (s : Fin 63) (j : Fin 16), u (ix2 ⟨2848 + (j * 64 + s), by omega⟩ 127) = w1 s j 0
  h_w2 : ∀ (j : Fin 16) (k : Fin 63), u (ix2 ⟨3872 + j * 8, by omega⟩ ⟨k, by omega⟩) = w2 0 j k.succ
  h_w2b : ∀ (j : Fin 16), u (ix2 ⟨3872 + j * 8, by omega⟩ 63) = w2 0 j 0

/-- The output block at a sample is the network's output on it. -/
theorem out_at (x : Vec Ideal S1024x256 .f32) (c : Vec Ideal S1x1 .f32) (u : Vec Ideal S4000x256 .bf16)
    (c0 c1 : Vec Ideal S1x1 .f32) {cm0 w0 cm1 w1 cm2 w2} (h : Packed u cm0 w0 cm1 w1 cm2 w2) (b : Fin 1024) :
    out0_5 x c u c0 c1 (ix2 0 b)
      = net (fun k => x (ix2 b k)) (c (ix2 0 0)) cm0 w0 (c0 (ix2 0 0)) cm1 w1 (c1 (ix2 0 0)) cm2 w2 := by
  -- the distances of the three layers
  have d0 : ∀ (s : Fin 127) (m : Fin 4), k0_pay2 x (View.ld u r0_2) (ix3 m ⟨s, by omega⟩ b) = dist cm0 (fun k => x (ix2 b k)) s m := by
    intro s m
    rw [pay2_at]
    refine Finset.sum_congr rfl fun k _ => ?_
    rw [← h.h_cm0]
    exact congrArg (· * _) (load_rows (o := 0) (n := 800) (w := 256) u _ _ k _ k (Nat.zero_add _).symm rfl)
  have d1 : ∀ (s : Fin 63) (m : Fin 4), k0_pay3 x (View.ld u r0_2) (ix3 m ⟨s, by omega⟩ b) = dist cm1 (fun k => x (ix2 b k)) s m := by
    intro s m
    rw [pay3_at]
    refine Finset.sum_congr rfl fun k _ => ?_
    rw [← h.h_cm1]
    exact congrArg (· * _) (load_rows (o := 0) (n := 800) (w := 256) u _ _ k _ k (Nat.zero_add _).symm rfl)
  have d2 : ∀ m : Fin 4, k0_pay4 x (View.ld u r0_2) (ix3 m 0 b) = dist cm2 (fun k => x (ix2 b k)) 0 m := by
    intro m
    rw [pay4_at]
    refine Finset.sum_congr rfl fun k _ => ?_
    rw [← h.h_cm2]
    exact congrArg (· * _) (load_rows (o := 0) (n := 800) (w := 256) u _ _ k _ k (Nat.zero_add _).symm rfl)
  -- the first layer's candidates
  have a0 : ∀ (s : Fin 127) (j : Fin 16), k0_pay5 x c (View.ld u r0_3) (ix3 j ⟨s, by omega⟩ b)
      = ∑ i, w0 s j i * logit (c (ix2 0 0)) (fun k => x (ix2 b k)) i := by
    intro s j
    rw [pay5_at]
    refine Finset.sum_congr rfl fun k _ => ?_
    rw [← h.h_w0]
    exact congrArg (· * _) (load_rows (o := 800) (n := 2048) (w := 256) u _ _ k _ k rfl rfl)
  -- the second layer's candidates
  have a1 : ∀ (s : Fin 63) (j : Fin 16),
      k0_pay9 (k0_pay2 x (View.ld u r0_2)) (k0_pay5 x c (View.ld u r0_3)) (k0_pay6 x (View.ld u r0_2))
        (k0_pay7 x (View.ld u r0_2)) (k0_pay8 x (View.ld u r0_2)) (Scalar.ofBits .f32 0x00000000#32) c0 (View.ld u r0_4)
        (ix3 j ⟨s, by omega⟩ b)
      = ∑ i, w1 s j i * hidden0 (fun k => x (ix2 b k)) (c (ix2 0 0)) cm0 w0 (c0 (ix2 0 0)) i := by
    intro s j
    rw [pay9_at]
    refine sum_rolled _ _ _ _ _ ?_ ?_ ?_ ?_
    · intro i
      rw [← h.h_w1]
      exact load_rows (o := 2848) (n := 1024) (w := 128) u _ _ _ _ _ rfl rfl
    · rw [← h.h_w1b]
      exact load_rows (o := 2848) (n := 1024) (w := 128) u _ _ _ _ _ rfl rfl
    · intro i
      rw [if_neg (by simp; omega)]
      simp only [neuron, Fin.castSucc, Fin.castAdd, Fin.castLE, d0, a0]
    · rw [if_pos (by simp)]
  -- the second layer's outputs
  have l1 : ∑ i, View.ld u r0_5 (ix2 ⟨(pick fun m => k0_pay4 x (View.ld u r0_2) (ix3 m 0 b)) * 8, by omega⟩ i)
        * k0_pay12 (k0_pay3 x (View.ld u r0_2)) (k0_pay9 (k0_pay2 x (View.ld u r0_2)) (k0_pay5 x c (View.ld u r0_3)) (k0_pay6 x (View.ld u r0_2))
        (k0_pay7 x (View.ld u r0_2)) (k0_pay8 x (View.ld u r0_2)) (Scalar.ofBits .f32 0x00000000#32) c0 (View.ld u r0_4))
          (k0_pay10 (k0_pay3 x (View.ld u r0_2))) c1 (ix2 i b)
      = ∑ i, w2 0 (pick (dist cm2 (fun k => x (ix2 b k)) 0)) i
        * hidden1 (fun k => x (ix2 b k)) (c (ix2 0 0)) cm0 w0 (c0 (ix2 0 0)) cm1 w1 (c1 (ix2 0 0)) i := by
    simp only [d2]
    refine sum_rolled _ _ _ _ _ ?_ ?_ ?_ ?_
    · intro i
      rw [← h.h_w2]
      exact load_rows (o := 3872) (n := 128) (w := 64) u _ _ _ _ _ rfl rfl
    · rw [← h.h_w2b]
      exact load_rows (o := 3872) (n := 128) (w := 64) u _ _ _ _ _ rfl rfl
    · intro i
      rw [pay12_at, if_neg (by simp; omega)]
      simp only [neuron, Fin.castSucc, Fin.castAdd, Fin.castLE, d1, a1]
    · rw [pay12_at, if_pos (by simp)]
  unfold out0_5 k0_pay14
  rw [View.canon_cons_unit_lit _ _ _ (by decide), load_x, load_c, load_c, load_c, pay13_at, l1]
  rfl

end Cert.KernelIdeal.Glin

end
-- ==== Proof.Pack.lean ====
module

public import proofs.«01_k».proof.Proof.Body
public import Idealize.ShloMosaic.Lib.StableHlo.ReadAt

@[expose] public section

set_option maxRecDepth 16384

/-!
  The kernel's host lines before the call: the packed buffer holds the context maps and the weights where the body
  looks for them, and the three biases are the arguments'.
-/

noncomputable section

namespace Cert.KernelIdeal.Glin

open Idealize.ShloMosaic Idealize.ShloMosaic.TcCoe Idealize.SL.Sem Cert.KernelIdeal.Gen Cert.Glin

variable (m : (ℓ : Loc nD τ sig) → Buf (Elt Ideal) ℓ)

/-- Two reads of an argument with one leading unit axis agree where the other coordinates do. -/
theorem read_congr {α : Type} {n1 n2 n3 : ℕ} (f : (⟨4, ![1, n1, n2, n3]⟩ : Shape).Idx → α) {b b' : Fin n1} {e e' : Fin n2}
    {k k' : Fin n3} (hb : (b : ℕ) = b') (he : (e : ℕ) = e') (hk : (k : ℕ) = k') :
    f (ix4 0 b e k) = f (ix4 0 b' e' k') := by
  rw [Fin.ext hb, Fin.ext he, Fin.ext hk]

/-- The base bias, as the call gets it. -/
theorem bias_base (c : Dev nD) : V m c main_v0 (ix2 0 0) = m ((c : Thread nD τ).loc main_arg1) ix0 := by
  unfold V
  after_reads_at

/-- The first layer's bias, as the call gets it. -/
theorem bias_0 (c : Dev nD) : V m c main_v1 (ix2 0 0) = m ((c : Thread nD τ).loc main_arg4) (ix3 0 0 0) := by
  unfold V
  after_reads_at

/-- The second layer's bias, as the call gets it. -/
theorem bias_1 (c : Dev nD) : V m c main_v2 (ix2 0 0) = m ((c : Thread nD τ).loc main_arg7) (ix3 0 0 0) := by
  unfold V
  after_reads_at

/-- The packed buffer's first rows: the first layer's context maps. -/
theorem pack_cm0 (c : Dev nD) (s : Fin 127) (a : Fin 4) (k : Fin 256) :
    V m c main_v35 (ix2 ⟨a * 128 + s, by omega⟩ k) = m ((c : Thread nD τ).loc main_arg2) (ix4 0 s a k) := by
  unfold V
  after_reads_at
  rw [dif_pos (by omega)]
  after_reads_at
  rw [dif_pos ⟨by omega, by omega⟩]
  exact read_congr (m ((c : Thread nD τ).loc main_arg2)) (by first | rfl | (dsimp only; omega)) (by first | rfl | (dsimp only; omega)) rfl

/-- Then the second layer's context maps. -/
theorem pack_cm1 (c : Dev nD) (s : Fin 63) (a : Fin 4) (k : Fin 256) :
    V m c main_v35 (ix2 ⟨512 + (a * 64 + s), by omega⟩ k) = m ((c : Thread nD τ).loc main_arg5) (ix4 0 s a k) := by
  unfold V
  after_reads_at
  rw [dif_pos (by omega)]
  after_reads_at
  rw [dif_pos ⟨by omega, by omega⟩]
  exact read_congr (m ((c : Thread nD τ).loc main_arg5)) (by first | rfl | (dsimp only; omega)) (by first | rfl | (dsimp only; omega)) rfl

/-- Then the last layer's context maps. -/
theorem pack_cm2 (c : Dev nD) (a : Fin 4) (k : Fin 256) :
    V m c main_v35 (ix2 ⟨768 + a * 8, by omega⟩ k) = m ((c : Thread nD τ).loc main_arg8) (ix4 0 0 a k) := by
  unfold V
  after_reads_at
  rw [dif_neg (by omega), dif_neg (by omega), dif_pos (by omega)]
  after_reads_at
  rw [dif_pos ⟨by omega, by omega⟩]
  exact read_congr (m ((c : Thread nD τ).loc main_arg8)) (by first | rfl | (dsimp only; omega)) (by first | rfl | (dsimp only; omega)) rfl

/-- Then the first layer's weights. -/
theorem pack_w0 (c : Dev nD) (s : Fin 127) (a : Fin 16) (k : Fin 256) :
    V m c main_v35 (ix2 ⟨800 + (a * 128 + s), by omega⟩ k) = m ((c : Thread nD τ).loc main_arg3) (ix4 0 s a k) := by
  unfold V
  after_reads_at
  rw [dif_neg (by omega), dif_neg (by omega), dif_neg (by omega), dif_pos (by omega)]
  after_reads_at
  rw [dif_pos ⟨by omega, by omega⟩]
  exact read_congr (m ((c : Thread nD τ).loc main_arg3)) (by first | rfl | (dsimp only; omega)) (by first | rfl | (dsimp only; omega)) rfl

/-- Then the second layer's weights, all but the bias column one place to the left. -/
theorem pack_w1 (c : Dev nD) (s : Fin 63) (a : Fin 16) (k : Fin 127) :
    V m c main_v35 (ix2 ⟨2848 + (a * 64 + s), by omega⟩ ⟨k, by omega⟩) = m ((c : Thread nD τ).loc main_arg6) (ix4 0 s a k.succ) := by
  unfold V
  after_reads_at
  rw [dif_neg (by omega), dif_neg (by omega), dif_neg (by omega), dif_neg (by omega), dif_pos (by omega)]
  after_reads_at
  rw [dif_pos ⟨by omega, by omega, by omega⟩]
  after_reads_at
  exact read_congr (m ((c : Thread nD τ).loc main_arg6)) (by first | rfl | (dsimp only; omega)) (by first | rfl | (dsimp only; omega)) (by simp only [Fin.val_succ]; omega)

/-- The bias column of the second layer's weights stands last. -/
theorem pack_w1_bias (c : Dev nD) (s : Fin 63) (a : Fin 16) :
    V m c main_v35 (ix2 ⟨2848 + (a * 64 + s), by omega⟩ 127) = m ((c : Thread nD τ).loc main_arg6) (ix4 0 s a 0) := by
  unfold V
  after_reads_at
  rw [dif_neg (by omega), dif_neg (by omega), dif_neg (by omega), dif_neg (by omega), dif_pos (by omega)]
  after_reads_at
  rw [dif_pos ⟨by omega, by omega⟩]
  after_reads_at
  exact read_congr (m ((c : Thread nD τ).loc main_arg6)) (by first | rfl | (dsimp only; omega)) (by first | rfl | (dsimp only; omega)) rfl

/-- Then the last layer's weights, all but the bias column one place to the left. -/
theorem pack_w2 (c : Dev nD) (a : Fin 16) (k : Fin 63) :
    V m c main_v35 (ix2 ⟨3872 + a * 8, by omega⟩ ⟨k, by omega⟩) = m ((c : Thread nD τ).loc main_arg9) (ix4 0 0 a k.succ) := by
  unfold V
  after_reads_at
  rw [dif_neg (by omega), dif_neg (by omega), dif_neg (by omega), dif_neg (by omega), dif_neg (by omega)]
  after_reads_at
  rw [dif_pos ⟨by omega, by omega, by omega⟩]
  after_reads_at
  exact read_congr (m ((c : Thread nD τ).loc main_arg9)) (by first | rfl | (dsimp only; omega)) (by first | rfl | (dsimp only; omega)) (by simp only [Fin.val_succ]; omega)

/-- The bias column of the last layer's weights stands last. -/
theorem pack_w2_bias (c : Dev nD) (a : Fin 16) :
    V m c main_v35 (ix2 ⟨3872 + a * 8, by omega⟩ 63) = m ((c : Thread nD τ).loc main_arg9) (ix4 0 0 a 0) := by
  unfold V
  after_reads_at
  rw [dif_neg (by omega), dif_neg (by omega), dif_neg (by omega), dif_neg (by omega), dif_neg (by omega)]
  after_reads_at
  rw [dif_pos ⟨by omega, by omega⟩]
  after_reads_at
  exact read_congr (m ((c : Thread nD τ).loc main_arg9)) (by first | rfl | (dsimp only; omega)) (by first | rfl | (dsimp only; omega)) rfl

end Cert.KernelIdeal.Glin

end
-- ==== Proof.KernelRun.lean ====
module

public import proofs.«01_k».proof.Proof.Pack

@[expose] public section

set_option maxRecDepth 16384

/-!
  The kernel's run: its result at a sample is the network's output on that sample's row of the input.
-/

noncomputable section

namespace Cert.KernelIdeal.Glin

open Idealize.ShloMosaic Idealize.ShloMosaic.TcCoe Idealize.SL.Sem Cert.KernelIdeal.Gen Cert.Glin

variable (m : (ℓ : Loc nD τ sig) → Buf (Elt Ideal) ℓ) (ρ : Dev nD → PrngReg)

/-- The network on sample `b` of the arguments as launched. -/
def value (c : Dev nD) (b : Fin 1024) : EReal :=
  net (fun k => m ((c : Thread nD τ).loc main_arg0) (ix2 b k)) (m ((c : Thread nD τ).loc main_arg1) ix0)
    (fun s a k => m ((c : Thread nD τ).loc main_arg2) (ix4 0 s a k))
    (fun s j k => m ((c : Thread nD τ).loc main_arg3) (ix4 0 s j k)) (m ((c : Thread nD τ).loc main_arg4) (ix3 0 0 0))
    (fun s a k => m ((c : Thread nD τ).loc main_arg5) (ix4 0 s a k))
    (fun s j k => m ((c : Thread nD τ).loc main_arg6) (ix4 0 s j k)) (m ((c : Thread nD τ).loc main_arg7) (ix3 0 0 0))
    (fun s a k => m ((c : Thread nD τ).loc main_arg8) (ix4 0 s a k))
    (fun s j k => m ((c : Thread nD τ).loc main_arg9) (ix4 0 s j k))

/-- The packed buffer that the call gets holds the argument arrays where the body looks for them. -/
theorem packed (c : Dev nD) : Packed (V m c main_v35)
    (fun s a k => m ((c : Thread nD τ).loc main_arg2) (ix4 0 s a k))
    (fun s j k => m ((c : Thread nD τ).loc main_arg3) (ix4 0 s j k))
    (fun s a k => m ((c : Thread nD τ).loc main_arg5) (ix4 0 s a k))
    (fun s j k => m ((c : Thread nD τ).loc main_arg6) (ix4 0 s j k))
    (fun s a k => m ((c : Thread nD τ).loc main_arg8) (ix4 0 s a k))
    (fun s j k => m ((c : Thread nD τ).loc main_arg9) (ix4 0 s j k)) where
  h_cm0 := pack_cm0 m c
  h_cm1 := pack_cm1 m c
  h_cm2 := pack_cm2 m c
  h_w0 := pack_w0 m c
  h_w1 := pack_w1 m c
  h_w1b := pack_w1_bias m c
  h_w2 := pack_w2 m c
  h_w2b := pack_w2_bias m c

/-! ## Each input block is its whole array -/

/-- The block of the samples that the body gets is the whole array. -/
theorem block_x (c : Dev nD) (t : Fin cfg0.N) : iblk m c 0 t = V m c main_arg0 := by
  have e : ∀ t : Fin cfg0.N, win0_0.index t = ![0, 0] := (by decide +kernel : ∀ t : Fin grid0.N, _)
  funext y
  blk_ext [iblk, e]

/-- The block of the base bias is the whole array. -/
theorem block_base (c : Dev nD) (t : Fin cfg0.N) : iblk m c 1 t = V m c main_v0 := by
  have e : ∀ t : Fin cfg0.N, win0_1.index t = ![0, 0] := (by decide +kernel : ∀ t : Fin grid0.N, _)
  funext y
  blk_ext [iblk, e]

/-- The block of the packed buffer is the whole array. -/
theorem block_pack (c : Dev nD) (t : Fin cfg0.N) : iblk m c 2 t = V m c main_v35 := by
  have e : ∀ t : Fin cfg0.N, win0_2.index t = ![0, 0] := (by decide +kernel : ∀ t : Fin grid0.N, _)
  funext y
  blk_ext [iblk, e]

/-- The block of the first bias is the whole array. -/
theorem block_0 (c : Dev nD) (t : Fin cfg0.N) : iblk m c 3 t = V m c main_v1 := by
  have e : ∀ t : Fin cfg0.N, win0_3.index t = ![0, 0] := (by decide +kernel : ∀ t : Fin grid0.N, _)
  funext y
  blk_ext [iblk, e]

/-- The block of the second bias is the whole array. -/
theorem block_1 (c : Dev nD) (t : Fin cfg0.N) : iblk m c 4 t = V m c main_v2 := by
  have e : ∀ t : Fin cfg0.N, win0_4.index t = ![0, 0] := (by decide +kernel : ∀ t : Fin grid0.N, _)
  funext y
  blk_ext [iblk, e]

/-! ## The result -/

/-- The body's output block at a sample, from the buffers that the call gets. -/
theorem row_at (c : Dev nD) (b : Fin 1024) :
    out0_5 (V m c main_arg0) (V m c main_v0) (V m c main_v35) (V m c main_v1) (V m c main_v2) (ix2 0 b) = value m c b := by
  rw [out_at _ _ _ _ _ (packed m c), bias_base, bias_0, bias_1, V_main_arg0]
  rfl

/-- The body's output block, from the buffers that the call gets: the network's outputs in one row. -/
theorem row_apply (c : Dev nD) (y : S1x1024.Idx) :
    out0_5 (V m c main_arg0) (V m c main_v0) (V m c main_v35) (V m c main_v1) (V m c main_v2) y = value m c (y 1) := by
  have hy : y = ix2 (0 : Fin 1) (y 1 : Fin 1024) := by
    funext a
    match a with
    | 0 => exact Subsingleton.elim (α := Fin 1) _ _
    | 1 => rfl
  exact (congrArg (out0_5 _ _ _ _ _) hy).trans (row_at m c (y 1))

/-- The call's result array: the network's outputs in one row. -/
theorem array_row (c : Dev nD) :
    (dats m 0 c).arrAt 5 cfg0.N = fun i : S1x1024.Idx => value m c (i 1) := by
  have e : ∀ t : Fin cfg0.N, win0_5.index t = ![0, 0] := (by decide +kernel : ∀ t : Fin grid0.N, _)
  refine (dats m 0 c).arrAt_eq_of_covers 5 _ (by decide +kernel) fun t _ y => ?_
  blk_simp
  rw [after0_5, block_x, block_base, block_pack, block_0, block_1]
  refine (row_apply m c y).trans (congrArg (value m c) (Fin.ext ?_))
  blk_simp [e]

/-- The program's result, from the call's by the last host line. -/
theorem tail_apply (c : Dev nD) (b : Fin 1024) :
    Pipeline.afterTail₀ cfgs (dats m) 0 (V0 m) [hostOps1] c main_v37 (ix3 b 0 0) = value m c b := by
  unfold Pipeline.afterTail₀
  after_reads_at
  exact (congrFun (Pipeline.withArrays_arr spec0 (by decide) c (V0 m c) _ 5) _).trans (congrFun (array_row m c) _)

/-- The program's result is the network's output at every sample. -/
theorem tail_eq (c : Dev nD) :
    Pipeline.afterTail₀ cfgs (dats m) 0 (V0 m) [hostOps1] c main_v37 = fun i : S1024x1x1.Idx => value m c (i 0) := by
  funext i
  have hi : i = ix3 (i 0) 0 0 := by
    funext a
    match a with
    | 0 => rfl
    | 1 => exact Subsingleton.elim (α := Fin 1) _ _
    | 2 => exact Subsingleton.elim (α := Fin 1) _ _
  exact (congrArg (Pipeline.afterTail₀ cfgs (dats m) 0 (V0 m) [hostOps1] c main_v37) hi).trans (tail_apply m c (i 0))

/-- The kernel's run: it ends with the network's outputs in its result buffer. -/
theorem run_value : θ_run defs (onTc (τ := τ) (main (F := Ideal))) ⟨m, fun _ => 0, ρ⟩ fun r => ∀ c : Dev nD,
    r.2.mem ((c : Thread nD τ).loc main_v37) = fun i : S1024x1x1.Idx => value m c (i 0) :=
  (θ_run defs _ _).mono (fun r h c =>
    ((h c).2 main_v37 (Pipeline.mem_restRefs_of main_v37 (by decide) (by decide))).trans (tail_eq m c)) (run_main m ρ)

end Cert.KernelIdeal.Glin

end
-- ==== Proof.Lookup.lean ====
module

public import proofs.«01_k».proof.Proof.Spec
public import Idealize.ShloMosaic.Lib.Routing.OpsOne

@[expose] public section

/-!
  The reference's look-ups read at an index: the row of weights that four bits select, and the logits' bias column.
-/

noncomputable section

namespace Cert.Glin

open Idealize.ShloMosaic Idealize.ShloMosaic.Routing

/-- A small number's word, read signed, is the number. -/
theorem toNat_small (p : Fin 16) : (BitVec.ofNat 32 p.val).toInt.toNat = p.val := by
  revert p; decide

/-- A gather along the weight rows, its start words per neuron and sample: where the start word of neuron `s` and sample
    `b` is `p`, it reads row `p` of neuron `s`. -/
theorem gather_pick {α : Type} {n k : ℕ}
    (d : GatherDims ⟨4, ![1, n, 16, k]⟩ ⟨3, ![n, 1024, 1]⟩ ⟨4, ![1, n, 1024, k]⟩)
    (hoff : d.offsetDims = [0, 3]) (hcol : d.collapsedSliceDims = [2]) (hob : d.operandBatchingDims = [1])
    (hsb : d.startIndicesBatchingDims = [0]) (hsim : d.startIndexMap = [2]) (hivd : d.indexVectorDim = 2)
    (hsl : d.sliceSizes = ![1, 1, 1, k])
    (x : (⟨4, ![1, n, 16, k]⟩ : Shape).Idx → α) (idx : IVec ⟨3, ![n, 1024, 1]⟩ 32)
    (s : Fin n) (b : Fin 1024) (i : Fin k) (p : Fin 16) (h : idx (ix3 s b 0) = BitVec.ofNat 32 p.val) :
    Host.gather d x idx (ix4 0 s b i) = x (ix4 0 s p i) := by
  obtain ⟨od, cd, ob, sb, sim, ivd, ss, wf⟩ := d
  dsimp only at hoff hcol hob hsb hsim hivd hsl
  subst hoff hcol hob hsb hsim hivd hsl
  unfold Host.gather
  refine congrArg x (funext fun a => Fin.ext ?_)
  match a with
  | 0 => rfl
  | 1 =>
    exact (Nat.zero_add _).trans rfl
  | 2 =>
    show min (idx _).toInt.toNat (16 - 1) + 0 + 0 = p.val
    refine (congrArg (fun v : BitVec 32 => min v.toInt.toNat 15)
      ((congrArg idx (a₂ := ix3 s b (0 : Fin 1)) (funext fun e => ?_)).trans h)).trans ?_
    · match e with
      | 0 => rfl
      | 1 => rfl
      | 2 => rfl
    · show min (BitVec.ofNat 32 p.val).toInt.toNat 15 = p.val
      rw [toNat_small]
      omega
  | 3 => exact (Nat.zero_add _).trans rfl

/-- The same for one neuron, its start words per sample. -/
theorem gather_pick_one {α : Type} {k : ℕ}
    (d : GatherDims ⟨4, ![1, 1, 16, k]⟩ ⟨2, ![1024, 1]⟩ ⟨4, ![1, 1, 1024, k]⟩)
    (hoff : d.offsetDims = [0, 1, 3]) (hcol : d.collapsedSliceDims = [2]) (hob : d.operandBatchingDims = [])
    (hsb : d.startIndicesBatchingDims = []) (hsim : d.startIndexMap = [2]) (hivd : d.indexVectorDim = 1)
    (hsl : d.sliceSizes = ![1, 1, 1, k])
    (x : (⟨4, ![1, 1, 16, k]⟩ : Shape).Idx → α) (idx : IVec ⟨2, ![1024, 1]⟩ 32)
    (b : Fin 1024) (i : Fin k) (p : Fin 16) (h : idx (ix2 b 0) = BitVec.ofNat 32 p.val) :
    Host.gather d x idx (ix4 0 0 b i) = x (ix4 0 0 p i) := by
  obtain ⟨od, cd, ob, sb, sim, ivd, ss, wf⟩ := d
  dsimp only at hoff hcol hob hsb hsim hivd hsl
  subst hoff hcol hob hsb hsim hivd hsl
  unfold Host.gather
  refine congrArg x (funext fun a => Fin.ext ?_)
  match a with
  | 0 => rfl
  | 1 => rfl
  | 2 =>
    show min (idx _).toInt.toNat (16 - 1) + 0 + 0 = p.val
    refine (congrArg (fun v : BitVec 32 => min v.toInt.toNat 15)
      ((congrArg idx (a₂ := ix2 b (0 : Fin 1)) (funext fun e => ?_)).trans h)).trans ?_
    · match e with
      | 0 => rfl
      | 1 => rfl
    · show min (BitVec.ofNat 32 p.val).toInt.toNat 15 = p.val
      rw [toNat_small]
      omega
  | 3 => exact (Nat.zero_add _).trans rfl

/-- A column set in a matrix, read at an entry: the new column's entry there, the matrix's elsewhere. -/
theorem scatter_column {α : Type} {A N : ℕ} (d : ScatterDims (shape2 A N) (shape1 1) (shape1 A))
    (hiw : d.insertedWindowDims = [1]) (hsd : d.scatterDimsToOperandDims = [1]) (x : (shape2 A N).Idx → α)
    (idx : IVec (shape1 1) 32) (u : (shape1 A).Idx → α) (k : Fin N) (hidx : (idx (ix1 0)).toInt = (k.val : Int))
    (r : Fin A) (e : Fin N) :
    Host.scatter d (fun _ b => b) x idx u (ix2 r e) = if e = k then u (ix1 r) else x (ix2 r e) := by
  have hl (j : (shape1 A).Idx) : d.resultIdx? j idx = some (ix2 r e) ↔ j 0 = r ∧ e = k :=
    (iff_of_eq (congrArg (fun t => d.resultIdx? t idx = some (ix2 r e)) (eq_ix1 j))).trans
      (lands_col d hiw hsd idx k hidx (j 0) r e)
  split_ifs with h
  · refine scatter_set_hit d x idx u _ _ (fun j hj => ?_) (ix1 r) ((hl _).2 ⟨rfl, h⟩)
    exact congrArg u ((eq_ix1 j).trans (congrArg ix1 ((hl j).1 hj).1))
  · exact scatter_set_miss d x idx u _ fun j hj => h ((hl j).1 hj).2

/-- Four tests weighed by powers of two name the row that `pick` names. -/
theorem word_pick (D : Fin 4 → EReal) :
    Finset.fold IntOp.addi 0#32 (fun j : Fin 4 => IntOp.muli (BitVec.setWidth 32 (BitVec.ofBool (decide (0 < D j))))
      (IntOp.shli ArithUnit.host 1#32 (BitVec.ofNat 32 j))) Finset.univ = BitVec.ofNat 32 (pick D).val := by
  have h : ∀ p : Fin 4 → Bool, Finset.fold IntOp.addi 0#32 (fun j : Fin 4 => IntOp.muli (BitVec.setWidth 32 (BitVec.ofBool (p j)))
      (IntOp.shli ArithUnit.host 1#32 (BitVec.ofNat 32 j))) Finset.univ
      = BitVec.ofNat 32 ((if p 0 then 1 else 0) + (if p 1 then 2 else 0) + (if p 2 then 4 else 0) + (if p 3 then 8 else 0)) := by
    decide
  refine (h fun j => decide (0 < D j)).trans ?_
  simp only [decide_eq_true_eq]
  rfl

/-- A row's word is not negative, so it is not moved up. -/
theorem wrap_pick (p : Fin 16) :
    Scalar.select (IntOp.cmpi .slt (BitVec.ofNat 32 p.val) 0#32) (IntOp.addi (BitVec.ofNat 32 p.val) 16#32) (BitVec.ofNat 32 p.val)
      = BitVec.ofNat 32 p.val := by
  revert p
  decide

/-- A row's word is in range, so the guarded look-up keeps what it read. -/
theorem range_pick {α : Type} (u : Fin 1 → BitVec 32) (p : Fin 16) (hu : u 0 = BitVec.ofNat 32 p.val) (a b : α) :
    Scalar.select (Finset.fold IntOp.andi 1#1 (fun j : Fin 1 => IntOp.andi (IntOp.cmpi .sge (u j) 0#32) (IntOp.cmpi .sle (u j) 15#32))
      Finset.univ) a b = a := by
  have h : ∀ p : Fin 16, Finset.fold IntOp.andi 1#1 (fun _ : Fin 1 => IntOp.andi (IntOp.cmpi .sge (BitVec.ofNat 32 p.val) 0#32)
      (IntOp.cmpi .sle (BitVec.ofNat 32 p.val) 15#32)) Finset.univ = 1#1 := by decide
  have hu' : u = fun _ => BitVec.ofNat 32 p.val := funext fun j => (congrArg u (Subsingleton.elim j 0)).trans hu
  rw [hu', h p]
  rfl

/-- A value in front of a family, by a test on the position. -/
theorem cons_dite {n : ℕ} (c : EReal) (h : Fin n → EReal) (i : Fin (n + 1)) (h' : ¬ (i : ℕ) < 1 → (i : ℕ) - 1 < n) :
    (if hi : (i : ℕ) < 1 then c else h ⟨(i : ℕ) - 1, h' hi⟩) = Fin.cons (α := fun _ => EReal) c h i := by
  induction i using Fin.cases with
  | zero => rfl
  | succ i => rfl

/-- A layer's clipped product of the logits with the selected rows, in the order the network has. -/
theorem clip_sum {n : ℕ} (w l : Fin n → EReal) :
    min (Ideal.ofBits .f32 1088226339#32) (max (Ideal.ofBits .f32 3235709987#32) (∑ i, l i * w i)) = clip (∑ i, w i * l i) := by
  unfold clip
  simp only [mul_comm]

end Cert.Glin

end
-- ==== Proof.Layers.lean ====
module

public import proofs.«01_k».proof.Proof.Gen.ReferenceIdeal.Run
public import proofs.«01_k».proof.Proof.Lookup

@[expose] public section

set_option maxRecDepth 16384

/-!
  The reference's operations, layer by layer, each read at an index: the row that a neuron's bits select, the layer's
  clipped products with the selected rows, and the next layer's logits with the bias in front.
-/

noncomputable section

namespace Cert.ReferenceIdeal.Glin

open Cert.ReferenceIdeal.Gen Idealize.ShloMosaic Idealize.ShloMosaic.TcCoe Idealize.SL.Sem Cert.Glin

/-- The context maps of a layer as plain families. -/
def maps {n : ℕ} (cm : (⟨4, ![1, n, 4, 256]⟩ : Shape).Idx → EReal) (s : Fin n) (a : Fin 4) (k : Fin 256) : EReal := cm (ix4 0 s a k)

/-- The weights of a layer as plain families. -/
def weights {n k : ℕ} (w : (⟨4, ![1, n, 16, k]⟩ : Shape).Idx → EReal) (s : Fin n) (a : Fin 16) (i : Fin k) : EReal := w (ix4 0 s a i)

/-- One sample of the input. -/
def sample (x : (⟨2, ![1024, 256]⟩ : Shape).Idx → EReal) (b : Fin 1024) (k : Fin 256) : EReal := x (ix2 b k)

/-- The row that neuron `s` selects for sample `b`. -/
def row {n : ℕ} (cm : (⟨4, ![1, n, 4, 256]⟩ : Shape).Idx → EReal) (x : (⟨2, ![1024, 256]⟩ : Shape).Idx → EReal) (s : Fin n) (b : Fin 1024) : Fin 16 :=
  pick (dist (maps cm) (sample x b) s)

/-! ## The first layer -/

/-- The first layer's row numbers. -/
def word0 (cm : FVec Ideal S1x127x4x256 .f32) (x : FVec Ideal S1024x256 .f32) : IVec S1x127x1024 32 :=
  Host.reduce IntOp.addi (muli (extui 32 (cmpf .ogt (Host.dotGeneral dot_S1x127x4x256_S1024x256_S1x127x4x1024_3_1_012_0_n_n none cm x)
    (broadcastInDim S1x127x4x1024 ![] bcast_S_S1x127x4x1024 (constant S_ .f32 0x00000000#32))) natLt_1_32)
    (broadcastInDim S1x127x4x1024 ![0, 1, 2, 3] bcast_S1x1x4x1_S1x127x4x1024_0_1_2_3 (shapeCast _ (Host.shli
      (broadcastInDim S4 ![] bcast_S_S4 (constantI S_ 32 1#32)) (iotaInDim S4 32 0)) shapeCasts_S4_S1x1x4x1)))
    (constantI S_ 32 0#32) reducesTo_S1x127x4x1024_S1x127x1024_d2 h_S_

/-- A row number is the word of the row that the neuron selects. -/
theorem word0_at (cm : FVec Ideal S1x127x4x256 .f32) (x : FVec Ideal S1024x256 .f32) (s : Fin 127) (b : Fin 1024) :
    word0 cm x (ix3 0 s b) = BitVec.ofNat 32 (row cm x s b).val := by
  pointwise [word0]
  exact word_pick _

/-- The first layer's row numbers with the negative ones moved up by sixteen. -/
def wrap0 (v : IVec S1x127x1024 32) : IVec S127x1024x1 32 :=
  shapeCast _ (select (cmpi .slt (broadcastInDim S1x127x1024x1 ![0, 1, 2] bcast_S1x127x1024_S1x127x1024x1_0_1_2 v)
      (broadcastInDim S1x127x1024x1 ![] bcast_S_S1x127x1024x1 (constantI S_ 32 0#32)))
    (addi (broadcastInDim S1x127x1024x1 ![0, 1, 2] bcast_S1x127x1024_S1x127x1024x1_0_1_2 v) (broadcastInDim S1x127x1024x1 ![] bcast_S_S1x127x1024x1 (constantI S_ 32 16#32)))
    (broadcastInDim S1x127x1024x1 ![0, 1, 2] bcast_S1x127x1024_S1x127x1024x1_0_1_2 v)) shapeCasts_S1x127x1024x1_S127x1024x1

/-- No row number is moved. -/
theorem wrap0_at (cm : FVec Ideal S1x127x4x256 .f32) (x : FVec Ideal S1024x256 .f32) (s : Fin 127) (b : Fin 1024) :
    wrap0 (word0 cm x) (ix3 s b 0) = BitVec.ofNat 32 (row cm x s b).val := by
  pointwise [wrap0]
  rw [word0_at]
  exact wrap_pick _

/-- The first layer's selected rows: the look-up, guarded by the range test. -/
def rows0 (w : FVec Ideal S1x127x16x256 .f32) (u : IVec S127x1024x1 32) : FVec Ideal S1x127x1024x256 .f32 :=
  select (broadcastInDim S1x127x1024x256 ![1, 2] bcast_S127x1024_S1x127x1024x256_1_2 (Host.reduce IntOp.andi (andi
      (cmpi .sge u (broadcastInDim S127x1024x1 ![] bcast_S_S127x1024x1 (constantI S_ 32 0#32)))
      (cmpi .sle u (broadcastInDim S127x1024x1 ![0, 1, 2] bcast_S1x1x1_S127x1024x1_0_1_2 (broadcastInDim S1x1x1 ![2] bcast_S1_S1x1x1_2 (constantI S1 32 15#32)))))
      (constantI S_ 1 1#1) reducesTo_S127x1024x1_S127x1024_d2 h_S_))
    (Host.gather gather_S1x127x16x256_S127x1024x1_S1x127x1024x256_03_2_1_0_2_2_111256 w u)
    (broadcastInDim S1x127x1024x256 ![] bcast_S_S1x127x1024x256 (constant S_ .f32 0x7FC00000#32))

/-- A selected row is the weights' row that the neuron selects. -/
theorem rows0_at (w : FVec Ideal S1x127x16x256 .f32) (cm : FVec Ideal S1x127x4x256 .f32) (x : FVec Ideal S1024x256 .f32)
    (s : Fin 127) (b : Fin 1024) (i : Fin 256) :
    rows0 w (wrap0 (word0 cm x)) (ix4 0 s b i) = weights w s (row cm x s b) i := by
  pointwise [rows0]
  exact (range_pick (fun j => wrap0 (word0 cm x) (ix3 s b j)) (row cm x s b) (wrap0_at cm x s b) _ _).trans (gather_pick _ rfl rfl rfl rfl rfl rfl rfl _ _ _ _ _ _ (wrap0_at cm x s b))

/-- The first layer's outputs: the products of the logits with the selected rows, clipped. -/
def out0 (l : FVec Ideal S1024x256 .f32) (r : FVec Ideal S1x127x1024x256 .f32) : FVec Ideal S1x127x1024 .f32 :=
  minimumf (broadcastInDim S1x127x1024 ![] bcast_S_S1x127x1024 (id (constant S_ .f32 0x40DD0423#32)))
    (maximumf (broadcastInDim S1x127x1024 ![] bcast_S_S1x127x1024 (id (constant S_ .f32 0xC0DD0423#32)))
      (transpose S1x127x1024 [0, 2, 1] (Host.dotGeneral dot_S1024x256x1_S1x127x1024x256_S1x1024x127_1_3_n_1_20_02 none (broadcastInDim S1024x256x1 ![0, 1] bcast_S1024x256_S1024x256x1_0_1 l) r)
        transposes_S1x1024x127_S1x127x1024_0_2_1))

/-- The first layer's output at a neuron and a sample. -/
theorem out0_at (l : FVec Ideal S1024x256 .f32) (w : FVec Ideal S1x127x16x256 .f32) (cm : FVec Ideal S1x127x4x256 .f32)
    (x : FVec Ideal S1024x256 .f32) (s : Fin 127) (b : Fin 1024) :
    out0 l (rows0 w (wrap0 (word0 cm x))) (ix3 0 s b) = neuron (maps cm) (weights w) (sample x b) (fun i => l (ix2 b i)) s := by
  pointwise [out0]
  simp only [Fin.isValue, rows0_at]
  exact clip_sum _ _

/-- The logits above the first layer: its outputs per sample, the bias in front. -/
def above0 (c : FVec Ideal S1x1x1 .f32) (o : FVec Ideal S1x127x1024 .f32) : FVec Ideal S1024x128x1 .f32 :=
  concatenate S1024x128x1 1 [⟨S1024x1x1, broadcastInDim S1024x1x1 ![0, 1, 2] bcast_S1x1x1_S1024x1x1_0_1_2 c⟩,
    ⟨S1024x127x1, transpose S1024x127x1 [2, 1, 0] o transposes_S1x127x1024_S1024x127x1_2_1_0⟩]
    concatenates_S1024x1x1_S1024x127x1_S1024x128x1_d1

/-- A sample's logits above the first layer. -/
theorem above0_at (c : FVec Ideal S1x1x1 .f32) (o : FVec Ideal S1x127x1024 .f32) (b : Fin 1024) :
    (fun i : Fin 128 => above0 c o (ix3 b i 0)) = Fin.cons (α := fun _ => EReal) (c (ix3 0 0 0)) (fun j : Fin 127 => o (ix3 0 j b)) := by
  funext i
  pointwise [above0]
  exact cons_dite _ (fun j : Fin 127 => o (ix3 0 j b)) i (fun _ => by omega)

/-! ## The second layer -/

/-- The second layer's row numbers. -/
def word1 (cm : FVec Ideal S1x63x4x256 .f32) (x : FVec Ideal S1024x256 .f32) : IVec S1x63x1024 32 :=
  Host.reduce IntOp.addi (muli (extui 32 (cmpf .ogt (Host.dotGeneral dot_S1x63x4x256_S1024x256_S1x63x4x1024_3_1_012_0_n_n none cm x)
    (broadcastInDim S1x63x4x1024 ![] bcast_S_S1x63x4x1024 (constant S_ .f32 0x00000000#32))) natLt_1_32)
    (broadcastInDim S1x63x4x1024 ![0, 1, 2, 3] bcast_S1x1x4x1_S1x63x4x1024_0_1_2_3 (shapeCast _ (Host.shli
      (broadcastInDim S4 ![] bcast_S_S4 (constantI S_ 32 1#32)) (iotaInDim S4 32 0)) shapeCasts_S4_S1x1x4x1)))
    (constantI S_ 32 0#32) reducesTo_S1x63x4x1024_S1x63x1024_d2 h_S_

/-- A row number is the word of the row that the neuron selects. -/
theorem word1_at (cm : FVec Ideal S1x63x4x256 .f32) (x : FVec Ideal S1024x256 .f32) (s : Fin 63) (b : Fin 1024) :
    word1 cm x (ix3 0 s b) = BitVec.ofNat 32 (row cm x s b).val := by
  pointwise [word1]
  exact word_pick _

/-- The second layer's row numbers with the negative ones moved up by sixteen. -/
def wrap1 (v : IVec S1x63x1024 32) : IVec S63x1024x1 32 :=
  shapeCast _ (select (cmpi .slt (broadcastInDim S1x63x1024x1 ![0, 1, 2] bcast_S1x63x1024_S1x63x1024x1_0_1_2 v)
      (broadcastInDim S1x63x1024x1 ![] bcast_S_S1x63x1024x1 (constantI S_ 32 0#32)))
    (addi (broadcastInDim S1x63x1024x1 ![0, 1, 2] bcast_S1x63x1024_S1x63x1024x1_0_1_2 v) (broadcastInDim S1x63x1024x1 ![] bcast_S_S1x63x1024x1 (constantI S_ 32 16#32)))
    (broadcastInDim S1x63x1024x1 ![0, 1, 2] bcast_S1x63x1024_S1x63x1024x1_0_1_2 v)) shapeCasts_S1x63x1024x1_S63x1024x1

/-- No row number is moved. -/
theorem wrap1_at (cm : FVec Ideal S1x63x4x256 .f32) (x : FVec Ideal S1024x256 .f32) (s : Fin 63) (b : Fin 1024) :
    wrap1 (word1 cm x) (ix3 s b 0) = BitVec.ofNat 32 (row cm x s b).val := by
  pointwise [wrap1]
  rw [word1_at]
  exact wrap_pick _

/-- The second layer's selected rows: the look-up, guarded by the range test. -/
def rows1 (w : FVec Ideal S1x63x16x128 .f32) (u : IVec S63x1024x1 32) : FVec Ideal S1x63x1024x128 .f32 :=
  select (broadcastInDim S1x63x1024x128 ![1, 2] bcast_S63x1024_S1x63x1024x128_1_2 (Host.reduce IntOp.andi (andi
      (cmpi .sge u (broadcastInDim S63x1024x1 ![] bcast_S_S63x1024x1 (constantI S_ 32 0#32)))
      (cmpi .sle u (broadcastInDim S63x1024x1 ![0, 1, 2] bcast_S1x1x1_S63x1024x1_0_1_2 (broadcastInDim S1x1x1 ![2] bcast_S1_S1x1x1_2 (constantI S1 32 15#32)))))
      (constantI S_ 1 1#1) reducesTo_S63x1024x1_S63x1024_d2 h_S_))
    (Host.gather gather_S1x63x16x128_S63x1024x1_S1x63x1024x128_03_2_1_0_2_2_111128 w u)
    (broadcastInDim S1x63x1024x128 ![] bcast_S_S1x63x1024x128 (constant S_ .f32 0x7FC00000#32))

/-- A selected row is the weights' row that the neuron selects. -/
theorem rows1_at (w : FVec Ideal S1x63x16x128 .f32) (cm : FVec Ideal S1x63x4x256 .f32) (x : FVec Ideal S1024x256 .f32)
    (s : Fin 63) (b : Fin 1024) (i : Fin 128) :
    rows1 w (wrap1 (word1 cm x)) (ix4 0 s b i) = weights w s (row cm x s b) i := by
  pointwise [rows1]
  exact (range_pick (fun j => wrap1 (word1 cm x) (ix3 s b j)) (row cm x s b) (wrap1_at cm x s b) _ _).trans (gather_pick _ rfl rfl rfl rfl rfl rfl rfl _ _ _ _ _ _ (wrap1_at cm x s b))

/-- The second layer's outputs: the products of the logits with the selected rows, clipped. -/
def out1 (l : FVec Ideal S1024x128x1 .f32) (r : FVec Ideal S1x63x1024x128 .f32) : FVec Ideal S1x63x1024 .f32 :=
  minimumf (broadcastInDim S1x63x1024 ![] bcast_S_S1x63x1024 (id (constant S_ .f32 0x40DD0423#32)))
    (maximumf (broadcastInDim S1x63x1024 ![] bcast_S_S1x63x1024 (id (constant S_ .f32 0xC0DD0423#32)))
      (transpose S1x63x1024 [0, 2, 1] (Host.dotGeneral dot_S1024x128x1_S1x63x1024x128_S1x1024x63_1_3_n_1_20_02 none l r)
        transposes_S1x1024x63_S1x63x1024_0_2_1))

/-- The second layer's output at a neuron and a sample. -/
theorem out1_at (l : FVec Ideal S1024x128x1 .f32) (w : FVec Ideal S1x63x16x128 .f32) (cm : FVec Ideal S1x63x4x256 .f32)
    (x : FVec Ideal S1024x256 .f32) (s : Fin 63) (b : Fin 1024) :
    out1 l (rows1 w (wrap1 (word1 cm x))) (ix3 0 s b) = neuron (maps cm) (weights w) (sample x b) (fun i => l (ix3 b i 0)) s := by
  pointwise [out1]
  simp only [Fin.isValue, rows1_at]
  exact clip_sum _ _

/-- The logits above the second layer: its outputs per sample, the bias in front. -/
def above1 (c : FVec Ideal S1x1x1 .f32) (o : FVec Ideal S1x63x1024 .f32) : FVec Ideal S1024x64x1 .f32 :=
  concatenate S1024x64x1 1 [⟨S1024x1x1, broadcastInDim S1024x1x1 ![0, 1, 2] bcast_S1x1x1_S1024x1x1_0_1_2 c⟩,
    ⟨S1024x63x1, transpose S1024x63x1 [2, 1, 0] o transposes_S1x63x1024_S1024x63x1_2_1_0⟩]
    concatenates_S1024x1x1_S1024x63x1_S1024x64x1_d1

/-- A sample's logits above the second layer. -/
theorem above1_at (c : FVec Ideal S1x1x1 .f32) (o : FVec Ideal S1x63x1024 .f32) (b : Fin 1024) :
    (fun i : Fin 64 => above1 c o (ix3 b i 0)) = Fin.cons (α := fun _ => EReal) (c (ix3 0 0 0)) (fun j : Fin 63 => o (ix3 0 j b)) := by
  funext i
  pointwise [above1]
  exact cons_dite _ (fun j : Fin 63 => o (ix3 0 j b)) i (fun _ => by omega)

/-! ## The third layer -/

/-- The third layer's row numbers. -/
def word2 (cm : FVec Ideal S1x1x4x256 .f32) (x : FVec Ideal S1024x256 .f32) : IVec S1x1x1024 32 :=
  Host.reduce IntOp.addi (muli (extui 32 (cmpf .ogt (Host.dotGeneral dot_S1x1x4x256_S1024x256_S1x1x4x1024_3_1_012_0_n_n none cm x)
    (broadcastInDim S1x1x4x1024 ![] bcast_S_S1x1x4x1024 (constant S_ .f32 0x00000000#32))) natLt_1_32)
    (broadcastInDim S1x1x4x1024 ![0, 1, 2, 3] bcast_S1x1x4x1_S1x1x4x1024_0_1_2_3 (shapeCast _ (Host.shli
      (broadcastInDim S4 ![] bcast_S_S4 (constantI S_ 32 1#32)) (iotaInDim S4 32 0)) shapeCasts_S4_S1x1x4x1)))
    (constantI S_ 32 0#32) reducesTo_S1x1x4x1024_S1x1x1024_d2 h_S_

/-- A row number is the word of the row that the neuron selects. -/
theorem word2_at (cm : FVec Ideal S1x1x4x256 .f32) (x : FVec Ideal S1024x256 .f32) (s : Fin 1) (b : Fin 1024) :
    word2 cm x (ix3 0 s b) = BitVec.ofNat 32 (row cm x s b).val := by
  obtain rfl : s = 0 := Subsingleton.elim _ _
  pointwise [word2]
  exact word_pick _

/-- The third layer's row numbers with the negative ones moved up by sixteen. -/
def wrap2 (v : IVec S1x1x1024 32) : IVec S1024x1 32 :=
  shapeCast _ (select (cmpi .slt (broadcastInDim S1x1x1024x1 ![0, 1, 2] bcast_S1x1x1024_S1x1x1024x1_0_1_2 v)
      (broadcastInDim S1x1x1024x1 ![] bcast_S_S1x1x1024x1 (constantI S_ 32 0#32)))
    (addi (broadcastInDim S1x1x1024x1 ![0, 1, 2] bcast_S1x1x1024_S1x1x1024x1_0_1_2 v) (broadcastInDim S1x1x1024x1 ![] bcast_S_S1x1x1024x1 (constantI S_ 32 16#32)))
    (broadcastInDim S1x1x1024x1 ![0, 1, 2] bcast_S1x1x1024_S1x1x1024x1_0_1_2 v)) shapeCasts_S1x1x1024x1_S1024x1

/-- No row number is moved. -/
theorem wrap2_at (cm : FVec Ideal S1x1x4x256 .f32) (x : FVec Ideal S1024x256 .f32) (b : Fin 1024) :
    wrap2 (word2 cm x) (ix2 b 0) = BitVec.ofNat 32 (row cm x 0 b).val := by
  pointwise [wrap2]
  rw [word2_at]
  exact wrap_pick _

/-- The third layer's selected rows: the look-up, guarded by the range test. -/
def rows2 (w : FVec Ideal S1x1x16x64 .f32) (u : IVec S1024x1 32) : FVec Ideal S1x1x1024x64 .f32 :=
  select (broadcastInDim S1x1x1024x64 ![2] bcast_S1024_S1x1x1024x64_2 (Host.reduce IntOp.andi (andi
      (cmpi .sge u (broadcastInDim S1024x1 ![] bcast_S_S1024x1 (constantI S_ 32 0#32)))
      (cmpi .sle u (broadcastInDim S1024x1 ![0, 1] bcast_S1x1_S1024x1_0_1 (broadcastInDim S1x1 ![1] bcast_S1_S1x1_1 (constantI S1 32 15#32)))))
      (constantI S_ 1 1#1) reducesTo_S1024x1_S1024_d1 h_S_))
    (Host.gather gather_S1x1x16x64_S1024x1_S1x1x1024x64_013_2_n_n_2_1_11164 w u)
    (broadcastInDim S1x1x1024x64 ![] bcast_S_S1x1x1024x64 (constant S_ .f32 0x7FC00000#32))

/-- A selected row is the weights' row that the neuron selects. -/
theorem rows2_at (w : FVec Ideal S1x1x16x64 .f32) (cm : FVec Ideal S1x1x4x256 .f32) (x : FVec Ideal S1024x256 .f32)
    (b : Fin 1024) (i : Fin 64) :
    rows2 w (wrap2 (word2 cm x)) (ix4 0 0 b i) = weights w 0 (row cm x 0 b) i := by
  pointwise [rows2]
  exact (range_pick (fun j => wrap2 (word2 cm x) (ix2 b j)) (row cm x 0 b) (wrap2_at cm x b) _ _).trans (gather_pick_one _ rfl rfl rfl rfl rfl rfl rfl _ _ _ _ _ (wrap2_at cm x b))

/-- The third layer's outputs: the products of the logits with the selected rows, clipped. -/
def out2 (l : FVec Ideal S1024x64x1 .f32) (r : FVec Ideal S1x1x1024x64 .f32) : FVec Ideal S1x1x1024 .f32 :=
  minimumf (broadcastInDim S1x1x1024 ![] bcast_S_S1x1x1024 (id (constant S_ .f32 0x40DD0423#32)))
    (maximumf (broadcastInDim S1x1x1024 ![] bcast_S_S1x1x1024 (id (constant S_ .f32 0xC0DD0423#32)))
      (transpose S1x1x1024 [0, 2, 1] (Host.dotGeneral dot_S1024x64x1_S1x1x1024x64_S1x1024x1_1_3_n_1_20_02 none l r)
        transposes_S1x1024x1_S1x1x1024_0_2_1))

/-- The third layer's output at a neuron and a sample. -/
theorem out2_at (l : FVec Ideal S1024x64x1 .f32) (w : FVec Ideal S1x1x16x64 .f32) (cm : FVec Ideal S1x1x4x256 .f32)
    (x : FVec Ideal S1024x256 .f32) (s : Fin 1) (b : Fin 1024) :
    out2 l (rows2 w (wrap2 (word2 cm x))) (ix3 0 s b) = neuron (maps cm) (weights w) (sample x b) (fun i => l (ix3 b i 0)) s := by
  obtain rfl : s = 0 := Subsingleton.elim _ _
  pointwise [out2]
  simp only [Fin.isValue, rows2_at]
  exact clip_sum _ _

/-! ## The base logits and the whole network -/

/-- The input clipped into the open unit interval. -/
def squashed (x : FVec Ideal S1024x256 .f32) : FVec Ideal S1024x256 .f32 :=
  minimumf (broadcastInDim S1024x256 ![] bcast_S_S1024x256 (id (constant S_ .f32 0x3F7FBE77#32)))
    (maximumf (broadcastInDim S1024x256 ![] bcast_S_S1024x256 (id (constant S_ .f32 0x3A83126F#32))) x)

/-- The input's log-odds. -/
def odds (x : FVec Ideal S1024x256 .f32) : FVec Ideal S1024x256 .f32 :=
  Host.log (Host.divf (squashed x) (subf (broadcastInDim S1024x256 ![] bcast_S_S1024x256 (constant S_ .f32 0x3F800000#32)) (squashed x)))

/-- The base logits: the log-odds with the bias down the first column. -/
def base (c : FVec Ideal S_ .f32) (x : FVec Ideal S1024x256 .f32) : FVec Ideal S1024x256 .f32 :=
  Host.scatter scatter_S1024x256_S1_S1024_0_1_1_0 (fun _ b => b) (odds x)
    (broadcastInDim S1 ![] bcast_S_S1 (constantI S_ 32 0#32)) (broadcastInDim S1024 ![] bcast_S_S1024 c)

/-- The log-odds at a sample and a position. -/
theorem odds_at (x : FVec Ideal S1024x256 .f32) (b : Fin 1024) (i : Fin 256) :
    odds x (ix2 b i) = Ideal.log (Ideal.div (squash (sample x b i)) (1 - squash (sample x b i))) := by
  pointwise [odds, squashed]
  rfl

/-- A sample's base logits. -/
theorem base_at (c : FVec Ideal S_ .f32) (x : FVec Ideal S1024x256 .f32) (b : Fin 1024) :
    (fun i : Fin 256 => base c x (ix2 b i)) = logit (c ix0) (sample x b) := by
  funext i
  refine (scatter_column _ rfl rfl (odds x) _ _ 0 rfl b i).trans ?_
  rw [odds_at]
  pointwise []
  rfl

/-- The whole network over all samples. -/
def whole (x : FVec Ideal S1024x256 .f32) (c : FVec Ideal S_ .f32) (cm0 : FVec Ideal S1x127x4x256 .f32)
    (w0 : FVec Ideal S1x127x16x256 .f32) (c0 : FVec Ideal S1x1x1 .f32) (cm1 : FVec Ideal S1x63x4x256 .f32)
    (w1 : FVec Ideal S1x63x16x128 .f32) (c1 : FVec Ideal S1x1x1 .f32) (cm2 : FVec Ideal S1x1x4x256 .f32)
    (w2 : FVec Ideal S1x1x16x64 .f32) : FVec Ideal S1024x1x1 .f32 :=
  transpose S1024x1x1 [2, 1, 0] (out2 (above1 c1 (out1 (above0 c0 (out0 (base c x) (rows0 w0 (wrap0 (word0 cm0 x)))))
    (rows1 w1 (wrap1 (word1 cm1 x))))) (rows2 w2 (wrap2 (word2 cm2 x)))) transposes_S1x1x1024_S1024x1x1_2_1_0

/-- The whole network at a sample. -/
theorem whole_at (x : FVec Ideal S1024x256 .f32) (c : FVec Ideal S_ .f32) (cm0 : FVec Ideal S1x127x4x256 .f32)
    (w0 : FVec Ideal S1x127x16x256 .f32) (c0 : FVec Ideal S1x1x1 .f32) (cm1 : FVec Ideal S1x63x4x256 .f32)
    (w1 : FVec Ideal S1x63x16x128 .f32) (c1 : FVec Ideal S1x1x1 .f32) (cm2 : FVec Ideal S1x1x4x256 .f32)
    (w2 : FVec Ideal S1x1x16x64 .f32) (b : Fin 1024) :
    whole x c cm0 w0 c0 cm1 w1 c1 cm2 w2 (ix3 b 0 0) = net (sample x b) (c ix0) (maps cm0) (weights w0) (c0 (ix3 0 0 0))
      (maps cm1) (weights w1) (c1 (ix3 0 0 0)) (maps cm2) (weights w2) := by
  pointwise [whole]
  rw [out2_at, above1_at]
  simp only [out1_at, above0_at, out0_at, base_at]
  rfl

end Cert.ReferenceIdeal.Glin

end
-- ==== Proof.ReferenceRun.lean ====
module

public import proofs.«01_k».proof.Proof.Layers

@[expose] public section

set_option maxRecDepth 16384

/-!
  The reference's run: its result at a sample is the network's output on that sample's row of the input.
-/

noncomputable section

namespace Cert.ReferenceIdeal.Glin

open Cert.ReferenceIdeal.Gen Idealize.ShloMosaic Idealize.ShloMosaic.TcCoe Idealize.SL.Sem Cert.Glin

variable (m : (ℓ : Loc nD τ sig) → Buf (Elt Ideal) ℓ)

/-- The reference's result is the whole network on its arguments as launched. -/
theorem result_whole (c : Dev nD) : Value.res_main_v63 m c =
    whole (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) := by
  unfold Value.res_main_v63
  rfl

/-- The reference's result is the network's output at every sample. -/
theorem result_net (c : Dev nD) : Value.res_main_v63 m c = fun i : S1024x1x1.Idx =>
    net (sample (m ((c.tc : Thread nD τ).loc main_arg0)) (i 0)) (m ((c.tc : Thread nD τ).loc main_arg1) ix0)
      (maps (m ((c.tc : Thread nD τ).loc main_arg2))) (weights (m ((c.tc : Thread nD τ).loc main_arg3)))
      (m ((c.tc : Thread nD τ).loc main_arg4) (ix3 0 0 0))
      (maps (m ((c.tc : Thread nD τ).loc main_arg5))) (weights (m ((c.tc : Thread nD τ).loc main_arg6)))
      (m ((c.tc : Thread nD τ).loc main_arg7) (ix3 0 0 0))
      (maps (m ((c.tc : Thread nD τ).loc main_arg8))) (weights (m ((c.tc : Thread nD τ).loc main_arg9))) := by
  funext i
  have hi : i = ix3 (i 0) 0 0 := by
    funext a
    match a with
    | 0 => rfl
    | 1 => exact Subsingleton.elim (α := Fin 1) _ _
    | 2 => exact Subsingleton.elim (α := Fin 1) _ _
  exact (congrFun (result_whole m c) i).trans ((congrArg (whole _ _ _ _ _ _ _ _ _ _) hi).trans (whole_at _ _ _ _ _ _ _ _ _ _ (i 0)))

end Cert.ReferenceIdeal.Glin

end
-- ==== Proof.lean ====
module

public import proofs.«01_k».proof.Defs
public import proofs.«01_k».proof.Proof.Gen.ReferenceIdeal.Run
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.KernelRun
public import proofs.«01_k».proof.Proof.ReferenceRun
public import Idealize.ShloMosaic.Adequacy
public import Idealize.ShloMosaic.Init

@[expose] public section

noncomputable section

namespace Cert.Proof

open Idealize.ShloMosaic Idealize.SL.Sem Cert.Kernel

/-- The ideal kernel and the ideal reference end with the same result, the network's outputs, their arguments unchanged. -/
theorem algebraic : Cert.algebraic_KernelIdeal_ReferenceIdeal := by
  intro m ρ m' ρ' _ hag
  refine ⟨fun c => fun i : Cert.KernelIdeal.S1024x1x1.Idx => Cert.KernelIdeal.Glin.value m c (i 0), ?_, ?_⟩
  · exact (θ_run Cert.KernelIdeal.defs _ _).mono (fun _ h c => ⟨h.1 c, h.2 c⟩)
      (θ_run_and (Cert.KernelIdeal.Glin.run_value m ρ) (Cert.KernelIdeal.Gen.unchanged m ρ))
  · refine (θ_run Cert.ReferenceIdeal.defs _ _).mono (fun _ h c => ⟨(h c).1.trans ?_, (h c).2⟩) (Cert.ReferenceIdeal.Value.run m' ρ')
    obtain ⟨h0, h1, h2, h3, h4, h5, h6, h7, h8, h9⟩ := hag c
    refine (Cert.ReferenceIdeal.Glin.result_net m' c).trans ?_
    rw [h0, h1, h2, h3, h4, h5, h6, h7, h8, h9]
    rfl

/-- The ideal reference keeps its arguments; it declares no counter. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, frame_reference, trivial, algebraic⟩

end Cert.Proof

end
